-- ==== Defs.lean ====
def Pre_Kernel [hPre_pages_exist : Cert.Pre_pages_exist.Facts] (m : (ℓ : Loc Cert.Kernel.nD Cert.Kernel.τ Cert.Kernel.sig) → Buf (Elt Bits) ℓ) : Prop :=
  ∀ c : Dev Cert.Kernel.nD,
    (Cert.Pre_pages_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_pages_exist : Cert.Pre_pages_exist.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_exist [hPre_pages_exist : Cert.Pre_pages_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_pages_exist : Cert.Pre_pages_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pages_exist [hReferenceIdeal : Cert.ReferenceIdeal.Facts] [hPre_pages_exist : Cert.Pre_pages_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pages_exist : Cert.Pre_pages_exist.Facts),
    quiescent_Kernel (hKernel := hKernel) (hPre_pages_exist := hPre_pages_exist)
    ∧ quiescent_KernelIdeal (hKernelIdeal := hKernelIdeal) (hPre_pages_exist := hPre_pages_exist)
    ∧ quiescent_ReferenceIdeal (hReferenceIdeal := hReferenceIdeal)
    ∧ quiescent_ReferenceIdeal_pre_pages_exist (hReferenceIdeal := hReferenceIdeal) (hPre_pages_exist := hPre_pages_exist)
    ∧ preserves_Kernel_KernelIdeal
    ∧ algebraic_KernelIdeal_ReferenceIdeal (hKernelIdeal := hKernelIdeal) (hReferenceIdeal := hReferenceIdeal) (hPre_pages_exist := hPre_pages_exist)
-- ==== Pre_pages_exist.lean ====
abbrev S136 : Shape := ⟨1, ![136]⟩
abbrev S12288x2048 : Shape := ⟨2, ![12288, 2048]⟩
abbrev S12288x512 : Shape := ⟨2, ![12288, 512]⟩
abbrev S256x8192 : Shape := ⟨2, ![256, 8192]⟩
abbrev S16x8192 : Shape := ⟨2, ![16, 8192]⟩
abbrev S1000x8192 : Shape := ⟨2, ![1000, 8192]⟩
abbrev S128 : Shape := ⟨1, ![128]⟩
abbrev S_ : Shape := ⟨0, ![]⟩

class Facts : Prop where
  slices_S136_S128_0 : S136.Slices ![0] S128
  bcast_S_S128 : S_.BroadcastsInDim S128 (![] : Fin 0 → Fin S128.rank)

variable [Facts]

def fn {F : FTy → Type} [FloatOps F] (main_arg0 : IVec S136 32) (main_arg1 : FVec F S12288x2048 .bf16) (main_arg2 : FVec F S12288x512 .bf16) (main_arg3 : FVec F S12288x512 .bf16) (main_arg4 : IVec S256x8192 32) (main_arg5 : FVec F S16x8192 .bf16) (main_arg6 : FVec F S1000x8192 .bf16) : IVec S128 1 :=
  let main_v0 : IVec S128 32 := (extractStridedSlice S128 ![0] · slices_S136_S128_0) main_arg0
  let main_c : IVec S_ 32 := constantI S_ 32 0#32
  let main_v1 : IVec S128 32 := broadcastInDim S128 ![] bcast_S_S128 main_c
  let main_v2 : IVec S128 1 := cmpi .sge main_v0 main_v1
  let main_c_0 : IVec S_ 32 := constantI S_ 32 125#32
  let main_v3 : IVec S128 32 := broadcastInDim S128 ![] bcast_S_S128 main_c_0
  let main_v4 : IVec S128 1 := cmpi .slt main_v0 main_v3
  let main_v5 : IVec S128 1 := andi main_v2 main_v4
  main_v5
-- ==== Kernel.lean ====
abbrev S136 : Shape := ⟨1, ![136]⟩
abbrev S12288x2048 : Shape := ⟨2, ![12288, 2048]⟩
abbrev S12288x512 : Shape := ⟨2, ![12288, 512]⟩
abbrev S256x8192 : Shape := ⟨2, ![256, 8192]⟩
abbrev S16x8192 : Shape := ⟨2, ![16, 8192]⟩
abbrev S1000x8192 : Shape := ⟨2, ![1000, 8192]⟩
abbrev S12288x8192 : Shape := ⟨2, ![12288, 8192]⟩
abbrev S1024x2048 : Shape := ⟨2, ![1024, 2048]⟩
abbrev S1024x512 : Shape := ⟨2, ![1024, 512]⟩
abbrev S1 : Shape := ⟨1, ![1]⟩
abbrev S256x2048 : Shape := ⟨2, ![256, 2048]⟩
abbrev S16x2048 : Shape := ⟨2, ![16, 2048]⟩
abbrev S2048x2048 : Shape := ⟨2, ![2048, 2048]⟩
abbrev S_ : Shape := ⟨0, ![]⟩
abbrev S8x2048 : Shape := ⟨2, ![8, 2048]⟩
abbrev S256x512 : Shape := ⟨2, ![256, 512]⟩
abbrev S256x1x512 : Shape := ⟨3, ![256, 1, 512]⟩
abbrev S256x8x512 : Shape := ⟨3, ![256, 8, 512]⟩
abbrev S2048x512 : Shape := ⟨2, ![2048, 512]⟩
abbrev S128x512 : Shape := ⟨2, ![128, 512]⟩
abbrev S1x512 : Shape := ⟨2, ![1, 512]⟩
abbrev S512x2048 : Shape := ⟨2, ![512, 2048]⟩
abbrev S512x512 : Shape := ⟨2, ![512, 512]⟩

abbrev nBuf : Space → Nat
  | .hbm => 7
  | .vmem => 14
  | .smem => 1
  | _ => 0

abbrev bufTy : (tb : Table) → Fin (tcTables nBuf tb) → BufTy
  | .hbm, ⟨0, _⟩ => ⟨S12288x2048, .bf16⟩
  | .hbm, ⟨1, _⟩ => ⟨S12288x512, .bf16⟩
  | .hbm, ⟨2, _⟩ => ⟨S12288x512, .bf16⟩
  | .hbm, ⟨3, _⟩ => ⟨S256x8192, .i32⟩
  | .hbm, ⟨4, _⟩ => ⟨S16x8192, .bf16⟩
  | .hbm, ⟨5, _⟩ => ⟨S1000x8192, .bf16⟩
  | .hbm, ⟨6, _⟩ => ⟨S12288x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S256x2048, .i32⟩
  | .local _ .vmem, ⟨7, _⟩ => ⟨S256x2048, .i32⟩
  | .local _ .vmem, ⟨8, _⟩ => ⟨S16x2048, .bf16⟩
  | .local _ .vmem, ⟨9, _⟩ => ⟨S16x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1024x2048, .bf16⟩
  | .local _ .smem, ⟨0, _⟩ => ⟨S136, .i32⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c2048_i32 : BitVec 32 := 2048#32
  let v11 : BitVec 32 := Scalar.muli arg0 c2048_i32
  v11
@[reducible] def k0_t1_loop : Scf.Loop 32 :=
  let c0_i32_5 : BitVec 32 := 0#32
  let c128_i32 : BitVec 32 := 128#32
  let v13 : BitVec 32 := Scalar.addi c0_i32_5 c128_i32
  let c1_i32 : BitVec 32 := 1#32
  ⟨c0_i32_5, v13, c1_i32⟩
def k0_off1 (k0_t1 : Fin k0_t1_loop.trips) : Fin 1 → Nat :=
  let c0_i32_5 : BitVec 32 := 0#32
  let c1_i32 : BitVec 32 := 1#32
  let arg13 : BitVec 32 := Scf.iv c0_i32_5 c1_i32 k0_t1
  let v519 : Index := Scalar.indexCast arg13
  ![v519.toNat]
def k0_mult2 (v520 : BitVec 32) : BitVec 32 :=
  let c8_i32 : BitVec 32 := 8#32
  let v521 : BitVec 32 := Scalar.muli v520 c8_i32
  v521

def k0_mult3 (k0_t1 : Fin k0_t1_loop.trips) : BitVec 32 :=
  let c0_i32_5 : BitVec 32 := 0#32
  let c1_i32 : BitVec 32 := 1#32
  let arg13 : BitVec 32 := Scf.iv c0_i32_5 c1_i32 k0_t1
  let c8_i32_255 : BitVec 32 := 8#32
  let v523 : BitVec 32 := Scalar.muli arg13 c8_i32_255
  v523
def k0_off2 (k0_t1 : Fin k0_t1_loop.trips) : Fin 2 → Nat :=
  let c0_i32_5 : BitVec 32 := 0#32
  let c1_i32 : BitVec 32 := 1#32
  let arg13 : BitVec 32 := Scf.iv c0_i32_5 c1_i32 k0_t1
  let c8_i32_255 : BitVec 32 := 8#32
  let v523 : BitVec 32 := Scalar.muli arg13 c8_i32_255
  let v524 : BitVec 32 := v523
  let c0_i32_256 : BitVec 32 := 0#32
  ![v524.toNat, 0]
def k0_off3 (i : grid0.Coords) (v520 : BitVec 32) : Fin 2 → Nat :=
  let c8_i32 : BitVec 32 := 8#32
  let v521 : BitVec 32 := Scalar.muli v520 c8_i32
  let v522 : BitVec 32 := v521
  let arg0 : BitVec 32 := BitVec.ofNat 32 (i 0).val
  let c2048_i32 : BitVec 32 := 2048#32
  let v11 : BitVec 32 := Scalar.muli arg0 c2048_i32
  let v12 : BitVec 32 := v11
  ![v522.toNat, v12.toNat]

def k0_chk1 (i : grid0.Coords) (v520 : BitVec 32) : Prop :=
  (∀ (k0_h1 : k0_cond1 i = 1#1), 8 ∣ (k0_mult2 v520).toNat) ∧
  (∀ (k0_h1 : k0_cond1 i = 1#1), ∀ a, (k0_off3 i v520) a + S8x2048.size a ≤ S1000x8192.size a) ∧
  (∀ (k0_h1 : k0_cond1 i = 1#1), ∀ (hinb : ∀ a, (k0_off3 i v520) a + S8x2048.size a ≤ S1000x8192.size a), (Rect.unit (s := S1000x8192) (k0_off3 i v520) S8x2048.size hinb).WholeWords (EltTy.packing .bf16))
theorem k0_mult2_dvd : ∀ (i : grid0.Coords) (v520 : BitVec 32) (k0_hw1 : k0_chk1 i v520), ∀ (k0_h1 : k0_cond1 i = 1#1), 8 ∣ (k0_mult2 v520).toNat := fun i v520 k0_hw1 k0_h1 => k0_hw1.1 k0_h1
theorem k0_off3_inb : ∀ (i : grid0.Coords) (v520 : BitVec 32) (k0_hw1 : k0_chk1 i v520), ∀ (k0_h1 : k0_cond1 i = 1#1), ∀ a, (k0_off3 i v520) a + S8x2048.size a ≤ S1000x8192.size a := fun i v520 k0_hw1 k0_h1 => k0_hw1.2.1 k0_h1
theorem k0_off3_wordsbf16 : ∀ (i : grid0.Coords) (v520 : BitVec 32) (k0_hw1 : k0_chk1 i v520), ∀ (k0_h1 : k0_cond1 i = 1#1), (Rect.unit (s := S1000x8192) (k0_off3 i v520) S8x2048.size (k0_off3_inb i v520 k0_hw1 k0_h1)).WholeWords (EltTy.packing .bf16) := fun i v520 k0_hw1 k0_h1 => k0_hw1.2.2 k0_h1 (k0_off3_inb i v520 k0_hw1 k0_h1)

@[reducible] def k0_t2_loop : Scf.Loop 32 :=
  let c0_i32_251 : BitVec 32 := 0#32
  let c128_i32_252 : BitVec 32 := 128#32
  let v518 : BitVec 32 := Scalar.addi c0_i32_251 c128_i32_252
  let c1_i32_253 : BitVec 32 := 1#32
  ⟨c0_i32_251, v518, c1_i32_253⟩
def k0_off4 (k0_t2 : Fin k0_t2_loop.trips) : Fin 1 → Nat :=
  let c0_i32_251 : BitVec 32 := 0#32
  let c1_i32_253 : BitVec 32 := 1#32
  let arg13 : BitVec 32 := Scf.iv c0_i32_251 c1_i32_253 k0_t2
  let v519 : Index := Scalar.indexCast arg13
  ![v519.toNat]
def k0_mult4 (v520 : BitVec 32) : BitVec 32 :=
  let c8_i32 : BitVec 32 := 8#32
  let v521 : BitVec 32 := Scalar.muli v520 c8_i32
  v521

def k0_mult5 (k0_t2 : Fin k0_t2_loop.trips) : BitVec 32 :=
  let c0_i32_251 : BitVec 32 := 0#32
  let c1_i32_253 : BitVec 32 := 1#32
  let arg13 : BitVec 32 := Scf.iv c0_i32_251 c1_i32_253 k0_t2
  let c8_i32_255 : BitVec 32 := 8#32
  let v523 : BitVec 32 := Scalar.muli arg13 c8_i32_255
  v523
def k0_off5 (k0_t2 : Fin k0_t2_loop.trips) : Fin 2 → Nat :=
  let c0_i32_251 : BitVec 32 := 0#32
  let c1_i32_253 : BitVec 32 := 1#32
  let arg13 : BitVec 32 := Scf.iv c0_i32_251 c1_i32_253 k0_t2
  let c8_i32_255 : BitVec 32 := 8#32
  let v523 : BitVec 32 := Scalar.muli arg13 c8_i32_255
  let v524 : BitVec 32 := v523
  let c0_i32_256 : BitVec 32 := 0#32
  ![v524.toNat, 0]
def k0_off6 (i : grid0.Coords) (v520 : BitVec 32) : Fin 2 → Nat :=
  let c8_i32 : BitVec 32 := 8#32
  let v521 : BitVec 32 := Scalar.muli v520 c8_i32
  let v522 : BitVec 32 := v521
  let arg0 : BitVec 32 := BitVec.ofNat 32 (i 0).val
  let c2048_i32 : BitVec 32 := 2048#32
  let v11 : BitVec 32 := Scalar.muli arg0 c2048_i32
  let v12 : BitVec 32 := v11
  ![v522.toNat, v12.toNat]

def k0_chk2 (i : grid0.Coords) (v520 : BitVec 32) : Prop :=
  (∀ (k0_h1 : k0_cond1 i = 1#1), 8 ∣ (k0_mult4 v520).toNat) ∧
  (∀ (k0_h1 : k0_cond1 i = 1#1), ∀ a, (k0_off6 i v520) a + S8x2048.size a ≤ S1000x8192.size a) ∧
  (∀ (k0_h1 : k0_cond1 i = 1#1), ∀ (hinb : ∀ a, (k0_off6 i v520) a + S8x2048.size a ≤ S1000x8192.size a), (Rect.unit (s := S1000x8192) (k0_off6 i v520) S8x2048.size hinb).WholeWords (EltTy.packing .bf16))
theorem k0_mult4_dvd : ∀ (i : grid0.Coords) (v520 : BitVec 32) (k0_hw2 : k0_chk2 i v520), ∀ (k0_h1 : k0_cond1 i = 1#1), 8 ∣ (k0_mult4 v520).toNat := fun i v520 k0_hw2 k0_h1 => k0_hw2.1 k0_h1
theorem k0_off6_inb : ∀ (i : grid0.Coords) (v520 : BitVec 32) (k0_hw2 : k0_chk2 i v520), ∀ (k0_h1 : k0_cond1 i = 1#1), ∀ a, (k0_off6 i v520) a + S8x2048.size a ≤ S1000x8192.size a := fun i v520 k0_hw2 k0_h1 => k0_hw2.2.1 k0_h1
theorem k0_off6_wordsbf16 : ∀ (i : grid0.Coords) (v520 : BitVec 32) (k0_hw2 : k0_chk2 i v520), ∀ (k0_h1 : k0_cond1 i = 1#1), (Rect.unit (s := S1000x8192) (k0_off6 i v520) S8x2048.size (k0_off6_inb i v520 k0_hw2 k0_h1)).WholeWords (EltTy.packing .bf16) := fun i v520 k0_hw2 k0_h1 => k0_hw2.2.2 k0_h1 (k0_off6_inb i v520 k0_hw2 k0_h1)

@[reducible] def k0_t3_loop : Scf.Loop 32 :=
  let c0_i32_5 : BitVec 32 := 0#32
  let c4_i32 : BitVec 32 := 4#32
  let v11 : BitVec 32 := Scalar.addi c0_i32_5 c4_i32
  let c1_i32 : BitVec 32 := 1#32
  ⟨c0_i32_5, v11, c1_i32⟩
def k0_mult6 (k0_t3 : Fin k0_t3_loop.trips) : BitVec 32 :=
  let c0_i32_5 : BitVec 32 := 0#32
  let c1_i32 : BitVec 32 := 1#32
  let arg13 : BitVec 32 := Scf.iv c0_i32_5 c1_i32 k0_t3
  let c512_i32 : BitVec 32 := 512#32
  let v12 : BitVec 32 := Scalar.muli arg13 c512_i32
  v12
def k0_off7 (k0_t3 : Fin k0_t3_loop.trips) : Fin 2 → Nat :=
  let c0_8 : Index := 0#32
  let c0_i32_5 : BitVec 32 := 0#32
  let c1_i32 : BitVec 32 := 1#32
  let arg13 : BitVec 32 := Scf.iv c0_i32_5 c1_i32 k0_t3
  let c512_i32 : BitVec 32 := 512#32
  let v12 : BitVec 32 := Scalar.muli arg13 c512_i32
  let v13 : BitVec 32 := v12
  let v15 : Index := Scalar.indexCast v13
  ![0, v15.toNat]
def k0_off8 (k0_t3 : Fin k0_t3_loop.trips) : Fin 2 → Nat :=
  let c0_11 : Index := 0#32
  let c0_i32_5 : BitVec 32 := 0#32
  let c1_i32 : BitVec 32 := 1#32
  let arg13 : BitVec 32 := Scf.iv c0_i32_5 c1_i32 k0_t3
  let c512_i32 : BitVec 32 := 512#32
  let v12 : BitVec 32 := Scalar.muli arg13 c512_i32
  let v13 : BitVec 32 := v12
  let v19 : Index := Scalar.indexCast v13
  ![0, v19.toNat]
def k0_off9 (k0_t3 : Fin k0_t3_loop.trips) : Fin 2 → Nat :=
  let c512 : Index := 512#32
  let c0_i32_5 : BitVec 32 := 0#32
  let c1_i32 : BitVec 32 := 1#32
  let arg13 : BitVec 32 := Scf.iv c0_i32_5 c1_i32 k0_t3
  let c512_i32 : BitVec 32 := 512#32
  let v12 : BitVec 32 := Scalar.muli arg13 c512_i32
  let v13 : BitVec 32 := v12
  let v24 : Index := Scalar.indexCast v13
  ![512, v24.toNat]
def k0_off10 (k0_t3 : Fin k0_t3_loop.trips) : Fin 2 → Nat :=
  let c0_16 : Index := 0#32
  let c0_i32_5 : BitVec 32 := 0#32
  let c1_i32 : BitVec 32 := 1#32
  let arg13 : BitVec 32 := Scf.iv c0_i32_5 c1_i32 k0_t3
  let c512_i32 : BitVec 32 := 512#32
  let v12 : BitVec 32 := Scalar.muli arg13 c512_i32
  let v13 : BitVec 32 := v12
  let v29 : Index := Scalar.indexCast v13
  ![0, v29.toNat]
def k0_cond2 (v3 : BitVec 32) : BitVec 1 :=
  let c2_i32 : BitVec 32 := 2#32
  let v4 : BitVec 1 := Scalar.cmpi .sle v3 c2_i32
  let v5 : BitVec 32 := Scalar.extui v4
  let c0_i32_1 : BitVec 32 := 0#32
  let v6 : BitVec 1 := Scalar.cmpi .ne v5 c0_i32_1
  v6

def k0_cond3 (v7 : BitVec 32) : BitVec 1 :=
  let c2_i32_3 : BitVec 32 := 2#32
  let v8 : BitVec 1 := Scalar.cmpi .sgt v7 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (inb_S136_S1_128 : ∀ a, (![128] : Fin 1 → Nat) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c128 : Index := 128#32
  let v0 : BitVec 32 := pf.at 0 (Rect.unit (s := S136) ![128] S1.size inb_S136_S1_128) numel1_S1
  let c2_i32 : BitVec 32 := 2#32
  let v1 : BitVec 1 := Scalar.cmpi .sgt v0 c2_i32
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S136 : Shape := ⟨1, ![136]⟩
abbrev S12288x2048 : Shape := ⟨2, ![12288, 2048]⟩
abbrev S12288x512 : Shape := ⟨2, ![12288, 512]⟩
abbrev S256x8192 : Shape := ⟨2, ![256, 8192]⟩
abbrev S16x8192 : Shape := ⟨2, ![16, 8192]⟩
abbrev S1000x8192 : Shape := ⟨2, ![1000, 8192]⟩
abbrev S16x16x8192 : Shape := ⟨3, ![16, 16, 8192]⟩
abbrev S_ : Shape := ⟨0, ![]⟩
abbrev S12288x256 : Shape := ⟨2, ![12288, 256]⟩
abbrev S12288x8192 : Shape := ⟨2, ![12288, 8192]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1024 : Shape := ⟨1, ![1024]⟩
abbrev S1 : Shape := ⟨1, ![1]⟩
abbrev S12288x1024 : Shape := ⟨2, ![12288, 1024]⟩
abbrev S1024x1 : Shape := ⟨2, ![1024, 1]⟩
abbrev S1024x8192 : Shape := ⟨2, ![1024, 8192]⟩

abbrev nBuf : Space → Nat
  | .hbm => 191
  | .vmem => 0
  | .smem => 0
  | _ => 0

abbrev hbmTy0_0 (i : Nat) : BufTy := match i % 128 with
  | 0 => ⟨S136, .i32⟩
  | 1 => ⟨S12288x2048, .bf16⟩
  | 2 => ⟨S12288x512, .bf16⟩
  | 3 => ⟨S12288x512, .bf16⟩
  | 4 => ⟨S256x8192, .i32⟩
  | 5 => ⟨S16x8192, .bf16⟩
  | 6 => ⟨S1000x8192, .bf16⟩
  | 7 => ⟨S16x16x8192, .bf16⟩
  | 8 => ⟨S256x8192, .bf16⟩
  | 9 => ⟨S_, .i32⟩
  | 10 => ⟨S256x8192, .i32⟩
  | 11 => ⟨S256x8192, .i32⟩
  | 12 => ⟨S_, .i32⟩
  | 13 => ⟨S256x8192, .i32⟩
  | 14 => ⟨S256x8192, .i32⟩
  | 15 => ⟨S_, .i32⟩
  | 16 => ⟨S256x8192, .i32⟩
  | 17 => ⟨S256x8192, .i1⟩
  | 18 => ⟨S256x8192, .i32⟩
  | 19 => ⟨S_, .i32⟩
  | 20 => ⟨S256x8192, .i32⟩
  | 21 => ⟨S256x8192, .i32⟩
  | 22 => ⟨S256x8192, .i32⟩
  | 23 => ⟨S256x8192, .bf16⟩
  | 24 => ⟨S256x8192, .bf16⟩
  | 25 => ⟨S12288x256, .bf16⟩
  | 26 => ⟨S12288x8192, .f32⟩
  | 27 => ⟨S_, .i32⟩
  | 28 => ⟨S256x8192, .i32⟩
  | 29 => ⟨S256x8192, .i32⟩
  | 30 => ⟨S_, .i32⟩
  | 31 => ⟨S256x8192, .i32⟩
  | 32 => ⟨S256x8192, .i32⟩
  | 33 => ⟨S_, .i32⟩
  | 34 => ⟨S256x8192, .i32⟩
  | 35 => ⟨S256x8192, .i1⟩
  | 36 => ⟨S256x8192, .i32⟩
  | 37 => ⟨S_, .i32⟩
  | 38 => ⟨S256x8192, .i32⟩
  | 39 => ⟨S256x8192, .i32⟩
  | 40 => ⟨S256x8192, .i32⟩
  | 41 => ⟨S256x8192, .bf16⟩
  | 42 => ⟨S256x8192, .bf16⟩
  | 43 => ⟨S12288x256, .bf16⟩
  | 44 => ⟨S12288x8192, .f32⟩
  | 45 => ⟨S12288x8192, .f32⟩
  | 46 => ⟨S_, .i32⟩
  | 47 => ⟨S256x8192, .i32⟩
  | 48 => ⟨S256x8192, .i32⟩
  | 49 => ⟨S_, .i32⟩
  | 50 => ⟨S256x8192, .i32⟩
  | 51 => ⟨S256x8192, .i32⟩
  | 52 => ⟨S_, .i32⟩
  | 53 => ⟨S256x8192, .i32⟩
  | 54 => ⟨S256x8192, .i1⟩
  | 55 => ⟨S256x8192, .i32⟩
  | 56 => ⟨S_, .i32⟩
  | 57 => ⟨S256x8192, .i32⟩
  | 58 => ⟨S256x8192, .i32⟩
  | 59 => ⟨S256x8192, .i32⟩
  | 60 => ⟨S256x8192, .bf16⟩
  | 61 => ⟨S256x8192, .bf16⟩
  | 62 => ⟨S12288x256, .bf16⟩
  | 63 => ⟨S12288x8192, .f32⟩
  | 64 => ⟨S12288x8192, .f32⟩
  | 65 => ⟨S_, .i32⟩
  | 66 => ⟨S256x8192, .i32⟩
  | 67 => ⟨S256x8192, .i32⟩
  | 68 => ⟨S_, .i32⟩
  | 69 => ⟨S256x8192, .i32⟩
  | 70 => ⟨S256x8192, .i32⟩
  | 71 => ⟨S_, .i32⟩
  | 72 => ⟨S256x8192, .i32⟩
  | 73 => ⟨S256x8192, .i1⟩
  | 74 => ⟨S256x8192, .i32⟩
  | 75 => ⟨S_, .i32⟩
  | 76 => ⟨S256x8192, .i32⟩
  | 77 => ⟨S256x8192, .i32⟩
  | 78 => ⟨S256x8192, .i32⟩
  | 79 => ⟨S256x8192, .bf16⟩
  | 80 => ⟨S256x8192, .bf16⟩
  | 81 => ⟨S12288x256, .bf16⟩
  | 82 => ⟨S12288x8192, .f32⟩
  | 83 => ⟨S12288x8192, .f32⟩
  | 84 => ⟨S_, .i32⟩
  | 85 => ⟨S256x8192, .i32⟩
  | 86 => ⟨S256x8192, .i32⟩
  | 87 => ⟨S_, .i32⟩
  | 88 => ⟨S256x8192, .i32⟩
  | 89 => ⟨S256x8192, .i32⟩
  | 90 => ⟨S_, .i32⟩
  | 91 => ⟨S256x8192, .i32⟩
  | 92 => ⟨S256x8192, .i1⟩
  | 93 => ⟨S256x8192, .i32⟩
  | 94 => ⟨S_, .i32⟩
  | 95 => ⟨S256x8192, .i32⟩
  | 96 => ⟨S256x8192, .i32⟩
  | 97 => ⟨S256x8192, .i32⟩
  | 98 => ⟨S256x8192, .bf16⟩
  | 99 => ⟨S256x8192, .bf16⟩
  | 100 => ⟨S12288x256, .bf16⟩
  | 101 => ⟨S12288x8192, .f32⟩
  | 102 => ⟨S12288x8192, .f32⟩
  | 103 => ⟨S_, .i32⟩
  | 104 => ⟨S256x8192, .i32⟩
  | 105 => ⟨S256x8192, .i32⟩
  | 106 => ⟨S_, .i32⟩
  | 107 => ⟨S256x8192, .i32⟩
  | 108 => ⟨S256x8192, .i32⟩
  | 109 => ⟨S_, .i32⟩
  | 110 => ⟨S256x8192, .i32⟩
  | 111 => ⟨S256x8192, .i1⟩
  | 112 => ⟨S256x8192, .i32⟩
  | 113 => ⟨S_, .i32⟩
  | 114 => ⟨S256x8192, .i32⟩
  | 115 => ⟨S256x8192, .i32⟩
  | 116 => ⟨S256x8192, .i32⟩
  | 117 => ⟨S256x8192, .bf16⟩
  | 118 => ⟨S256x8192, .bf16⟩
  | 119 => ⟨S12288x256, .bf16⟩
  | 120 => ⟨S12288x8192, .f32⟩
  | 121 => ⟨S12288x8192, .f32⟩
  | 122 => ⟨S_, .i32⟩
  | 123 => ⟨S256x8192, .i32⟩
  | 124 => ⟨S256x8192, .i32⟩
  | 125 => ⟨S_, .i32⟩
  | 126 => ⟨S256x8192, .i32⟩
  | 127 => ⟨S256x8192, .i32⟩
  | _ => ⟨S136, .i32⟩

abbrev hbmTy0_1 (i : Nat) : BufTy := match i % 128 with
  | 0 => ⟨S_, .i32⟩
  | 1 => ⟨S256x8192, .i32⟩
  | 2 => ⟨S256x8192, .i1⟩
  | 3 => ⟨S256x8192, .i32⟩
  | 4 => ⟨S_, .i32⟩
  | 5 => ⟨S256x8192, .i32⟩
  | 6 => ⟨S256x8192, .i32⟩
  | 7 => ⟨S256x8192, .i32⟩
  | 8 => ⟨S256x8192, .bf16⟩
  | 9 => ⟨S256x8192, .bf16⟩
  | 10 => ⟨S12288x256, .bf16⟩
  | 11 => ⟨S12288x8192, .f32⟩
  | 12 => ⟨S12288x8192, .f32⟩
  | 13 => ⟨S_, .i32⟩
  | 14 => ⟨S256x8192, .i32⟩
  | 15 => ⟨S256x8192, .i32⟩
  | 16 => ⟨S_, .i32⟩
  | 17 => ⟨S256x8192, .i32⟩
  | 18 => ⟨S256x8192, .i32⟩
  | 19 => ⟨S_, .i32⟩
  | 20 => ⟨S256x8192, .i32⟩
  | 21 => ⟨S256x8192, .i1⟩
  | 22 => ⟨S256x8192, .i32⟩
  | 23 => ⟨S_, .i32⟩
  | 24 => ⟨S256x8192, .i32⟩
  | 25 => ⟨S256x8192, .i32⟩
  | 26 => ⟨S256x8192, .i32⟩
  | 27 => ⟨S256x8192, .bf16⟩
  | 28 => ⟨S256x8192, .bf16⟩
  | 29 => ⟨S12288x256, .bf16⟩
  | 30 => ⟨S12288x8192, .f32⟩
  | 31 => ⟨S12288x8192, .f32⟩
  | 32 => ⟨S128, .i32⟩
  | 33 => ⟨S128x1, .i32⟩
  | 34 => ⟨S_, .i32⟩
  | 35 => ⟨S128x1, .i32⟩
  | 36 => ⟨S128x1, .i32⟩
  | 37 => ⟨S8, .i32⟩
  | 38 => ⟨S1x8, .i32⟩
  | 39 => ⟨S128x8, .i32⟩
  | 40 => ⟨S128x8, .i32⟩
  | 41 => ⟨S128x8, .i32⟩
  | 42 => ⟨S1024, .i32⟩
  | 43 => ⟨S1, .i32⟩
  | 44 => ⟨S_, .i32⟩
  | 45 => ⟨S_, .i32⟩
  | 46 => ⟨S_, .i1⟩
  | 47 => ⟨S_, .bf16⟩
  | 48 => ⟨S12288x512, .bf16⟩
  | 49 => ⟨S12288x512, .bf16⟩
  | 50 => ⟨S12288x1024, .bf16⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1024x8192, .bf16⟩
  | 60 => ⟨S12288x8192, .f32⟩
  | 61 => ⟨S12288x8192, .f32⟩
  | 62 => ⟨S12288x8192, .bf16⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_c_12 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_c_16 : Ref sig .tc := ⟨.hbm, 87, rfl⟩
abbrev main_v63 : Ref sig .tc := ⟨.hbm, 88, rfl⟩
abbrev main_v64 : Ref sig .tc := ⟨.hbm, 89, rfl⟩
abbrev main_c_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_18 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_19 : Ref sig .tc := ⟨.hbm, 103, rfl⟩
abbrev main_v76 : Ref sig .tc := ⟨.hbm, 104, rfl⟩
abbrev main_v77 : Ref sig .tc := ⟨.hbm, 105, rfl⟩
abbrev main_c_20 : Ref sig .tc := ⟨.hbm, 106, rfl⟩
abbrev main_v78 : Ref sig .tc := ⟨.hbm, 107, rfl⟩
abbrev main_v79 : Ref sig .tc := ⟨.hbm, 108, rfl⟩
abbrev main_c_21 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_23 : Ref sig .tc := ⟨.hbm, 122, rfl⟩
abbrev main_v91 : Ref sig .tc := ⟨.hbm, 123, rfl⟩
abbrev main_v92 : Ref sig .tc := ⟨.hbm, 124, rfl⟩
abbrev main_c_24 : Ref sig .tc := ⟨.hbm, 125, rfl⟩
abbrev main_v93 : Ref sig .tc := ⟨.hbm, 126, rfl⟩
abbrev main_v94 : Ref sig .tc := ⟨.hbm, 127, rfl⟩
abbrev main_c_25 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_26 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_27 : Ref sig .tc := ⟨.hbm, 141, rfl⟩
abbrev main_v106 : Ref sig .tc := ⟨.hbm, 142, rfl⟩
abbrev main_v107 : Ref sig .tc := ⟨.hbm, 143, rfl⟩
abbrev main_c_28 : Ref sig .tc := ⟨.hbm, 144, rfl⟩
abbrev main_v108 : Ref sig .tc := ⟨.hbm, 145, rfl⟩
abbrev main_v109 : Ref sig .tc := ⟨.hbm, 146, rfl⟩
abbrev main_c_29 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_30 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_31 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_32 : Ref sig .tc := ⟨.hbm, 173, rfl⟩
abbrev main_v133 : Ref sig .tc := ⟨.hbm, 174, rfl⟩
abbrev main_cst : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_33 : Ref sig .tc := ⟨.hbm, 179, rfl⟩
abbrev main_v137 : Ref sig .tc := ⟨.hbm, 180, rfl⟩
abbrev main_v138 : Ref sig .tc := ⟨.hbm, 181, rfl⟩
abbrev main_c_34 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]
-- ==== Proof.Kernel.Runs.lean ====
/- What the runs of the kernel share: the windows' schedules, what the arrays hold when the pipelined region is entered,
   the prefetched table, the blocks of the windows, the kernel's own semaphore and the adapter pool that stays in HBM,
   and the invariant a body with transfers of its own works under. -/
module

public import proofs.«01_k».proof.Proof.Gen.Kernel.Launch
public import proofs.«01_k».proof.Proof.Gen.Kernel.Skeleton
public import proofs.«01_k».proof.Proof.Gen.Kernel.Loops
public import Idealize.ShloMosaic.Lib.Batch
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents
/-- Window 3 (operand 4 (%arg4)) is fetched at the points ≡ 0 (mod 12), at any contents of the tables (its index map reads none). -/
theorem fetch0_3 (a : (pcfg0 (F := F)).Adm) : ∀ t : Fin (cfg0 a).N, ((cfg0 a).win 3).fetch t = true ↔ t.val % 12 = 0 :=
  (fun t => Pipeline.Window.fetchOf_reads cc0_transform_3 reads0_3 hreads0_3 0 (by decide) (by decide) (Pipeline.Window.sep_of_coord cc0_transform_3 0 1 (fun _ => rfl) (by decide)) (P := 12) (by decide) t : ∀ t : Fin grid0.N, Pipeline.Window.fetchOf grid0 false cc0_transform_3 t = true ↔ t.val % 12 = 0)
/-- Window 4 (operand 5 (%arg5)) is fetched at the points ≡ 0 (mod 12), at any contents of the tables (its index map reads none). -/
theorem fetch0_4 (a : (pcfg0 (F := F)).Adm) : ∀ t : Fin (cfg0 a).N, ((cfg0 a).win 4).fetch t = true ↔ t.val % 12 = 0 :=
  (fun t => Pipeline.Window.fetchOf_reads cc0_transform_4 reads0_4 hreads0_4 0 (by decide) (by decide) (Pipeline.Window.sep_of_coord cc0_transform_4 0 1 (fun _ => rfl) (by decide)) (P := 12) (by decide) t : ∀ t : Fin grid0.N, Pipeline.Window.fetchOf grid0 false cc0_transform_4 t = true ↔ t.val % 12 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_6 reads0_5 hreads0_5 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_main (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole main_arg6) (Memref.isWhole_whole _) (spec0_5.stage ((cfg0 a).slots t 5)) (hstage0_5 (((cfg0 a).slots t 5).cast nbuf0_5)) (Memref.whole cc0_scratch0) (Memref.isWhole_whole _) (Memref.whole cc0_scratch1) (Memref.isWhole_whole _) cc0_scratch2

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg6 (c : Dev nD) : V m c main_arg6 = m ((c : Thread nD τ).loc main_arg6) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin grid0.N, cond0_0 (grid0.coords t) ↔ t.val % 12 = 0 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x2048 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S16x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x2048 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x2048 .bf16 := Memref.whole cc0_scratch0
abbrev scM0_1 : Memref sig .tc .vmem S1024x2048 .bf16 := Memref.whole cc0_scratch1

/-- The adapter pool, left in HBM, as the body is handed it. -/
abbrev hbM0_0 : Memref sig .tc .hbm S1000x8192 .bf16 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 12] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0) := by
  rw [Pipeline.ownSems0_eq_of_list c osem0 [0] (by decide) (by decide)]; rfl
/-- The HBM operands the body moves, as references: unscoped, no window's array (`Pipeline.restRefs`). -/
def H0 : Finset (Ref sig .tc) := {main_arg6}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg6)) := by
  rw [BI.bigSep_eq_bigSepL_of_eq [main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 12) 0) ∗ iprop(hbPt0 c hbM0_0 (V m c main_arg6))) := by
  rw [Pipeline.ΦD_eq, scopedRest0_eq, ownSems00_eq, hbmPts0_eq]; simp only [scM0_0, scM0_1, owns_whole]; try rfl

end Cert.Kernel.Hand

end
-- ==== Proof.Kernel.Dma.lean ====
/- The kernel's two loops of transfers. The first starts 128 copies, all on one semaphore: copy `k` takes the eight rows
   of the adapter pool that page word `k` names (2048 columns of them, those of the current column block) into rows
   `8k … 8k+7` of the VMEM buffer. The second loop waits 128 times. The words may repeat, so every copy reads the pool
   under a read share of its own. After the loops the buffer holds `pageRows`. -/
module

public import proofs.«01_k».proof.Proof.Kernel.Runs

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words and the offsets -/

theorem trips1_eq : k0_t1_loop.trips = 128 := by decide
theorem trips2_eq : k0_t2_loop.trips = 128 := by decide

/-- The table's index `k`. -/
abbrev wix (k : Fin 128) : S136.Idx := fun a => match a with | ⟨0, _⟩ => ⟨k.val, Nat.lt_of_lt_of_le k.isLt (show 128 ≤ 136 by decide)⟩

/-- The page words are pages of the pool: what the kernel needs of its table. -/
def PagesOk (T : S136.Idx → BitVec 32) : Prop := ∀ k : Fin 128, (T (wix k)).toNat < 125

theorem off1_eq : ∀ k : Fin k0_t1_loop.trips, k0_off1 k = ![k.val] := by decide +kernel
theorem off2_eq : ∀ k : Fin k0_t1_loop.trips, k0_off2 k = ![8 * k.val, 0] := by decide +kernel
theorem off4_eq : ∀ k : Fin k0_t2_loop.trips, k0_off4 k = ![k.val] := by decide +kernel

theorem col_lt (i : grid0.Coords) : (i 0).val < 4 := (i 0).isLt

theorem off3_eq (i : grid0.Coords) (w : BitVec 32) (hw : w.toNat < 125) : k0_off3 i w = ![w.toNat * 8, (i 0).val * 2048] := by
  have hi := col_lt i
  have e1 : (Scalar.muli w 8#32).toNat = w.toNat * 8 := by
    show (w * 8#32).toNat = _
    rw [BitVec.toNat_mul]; show w.toNat * 8 % 2 ^ 32 = _
    omega
  have e2 : (Scalar.muli (BitVec.ofNat 32 (i 0).val) 2048#32).toNat = (i 0).val * 2048 := by
    show (BitVec.ofNat 32 (i 0).val * 2048#32).toNat = _
    rw [BitVec.toNat_mul, BitVec.toNat_ofNat]; show (i 0).val % 2 ^ 32 * 2048 % 2 ^ 32 = _
    omega
  funext a; fin_cases a
  · exact e1
  · exact e2

theorem off3_inb (i : grid0.Coords) (w : BitVec 32) (hw : w.toNat < 125) : ∀ a, k0_off3 i w a + S8x2048.size a ≤ S1000x8192.size a := by
  have hi := col_lt i
  rw [off3_eq i w hw]; intro a; fin_cases a
  · show w.toNat * 8 + 8 ≤ 1000; omega
  · show (i 0).val * 2048 + 2048 ≤ 8192; omega

theorem chk1_of (i : grid0.Coords) (w : BitVec 32) (hw : w.toNat < 125) : k0_chk1 i w := by
  have hi := col_lt i
  refine ⟨fun _ => ?_, fun _ => off3_inb i w hw, fun _ hinb => ?_⟩
  · have := off3_eq i w hw
    have h0 : (k0_mult2 w).toNat = w.toNat * 8 := congrFun this 0
    rw [h0]; exact ⟨w.toNat, Nat.mul_comm _ _⟩
  · have h0 : k0_off3 i w 0 = w.toNat * 8 := congrFun (off3_eq i w hw) 0
    refine Affine.words_of_packed (Affine.packed_dvd (of_decide_eq_true rfl) ?_ (by decide))
    show 2 ∣ k0_off3 i w 0
    rw [h0]; omega
theorem chk2_of (i : grid0.Coords) (w : BitVec 32) (hw : w.toNat < 125) : k0_chk2 i w := chk1_of i w hw

theorem off1_inb (k : Fin k0_t1_loop.trips) : ∀ a, k0_off1 k a + S1.size a ≤ S136.size a := by
  have hk : k.val < 128 := trips1_eq ▸ k.isLt
  rw [off1_eq k]; intro a; fin_cases a
  show k.val + 1 ≤ 136; omega
theorem off2_inb (k : Fin k0_t1_loop.trips) : ∀ a, k0_off2 k a + S8x2048.size a ≤ S1024x2048.size a := by
  have hk : k.val < 128 := trips1_eq ▸ k.isLt
  rw [off2_eq k]; intro a; fin_cases a
  · show 8 * k.val + 8 ≤ 1024; omega
  · show 0 + 2048 ≤ 2048; omega

/-- Page word `k`, as trip `k`'s load reads it off the table. -/
abbrev wd (T : S136.Idx → BitVec 32) (k : Fin k0_t1_loop.trips) : BitVec 32 :=
  tbM0_0.view.readAt (Elt F) (Rect.unit (s := S136) (k0_off1 k) S1.size (off1_inb k)).toLoadRect T (Shape.Idx.first (s := S1) (numel1_S1.symm ▸ Nat.one_pos))

theorem wd_eq (T : S136.Idx → BitVec 32) (k : Fin k0_t1_loop.trips) : wd (F := F) T k = T (wix (k.cast trips1_eq)) := by
  show T _ = T _
  refine congrArg T (funext fun a => Fin.ext ?_)
  fin_cases a
  have h : k0_off1 k 0 = k.val := congrFun (off1_eq k) 0
  show k0_off1 k 0 + 1 * 0 = k.val
  omega

theorem wd_lt {T : S136.Idx → BitVec 32} (hT : PagesOk T) (k : Fin k0_t1_loop.trips) : (wd (F := F) T k).toNat < 125 := by
  rw [wd_eq]; exact hT _

/-! ## The two ends of copy `k` -/

/-- Rows `8k … 8k+7` of the VMEM buffer, as the body spells them. -/
def dstM (k : Fin k0_t1_loop.trips) : Memref sig .tc .vmem S8x2048 .bf16 :=
  scM0_1.slice (Rect.unit (s := S1024x2048) (k0_off2 k) S8x2048.size (off2_inb k)) (fun _ => rfl)
/-- The rows of the pool that word `w` names, at the column block of `i`. -/
def srcM (i : grid0.Coords) (w : BitVec 32) (h : ∀ a, k0_off3 i w a + S8x2048.size a ≤ S1000x8192.size a) : Memref sig .tc .hbm S8x2048 .bf16 :=
  hbM0_0.slice (Rect.unit (s := S1000x8192) (k0_off3 i w) S8x2048.size h) (fun _ => rfl)

/-- One copy's credit on the semaphore. -/
abbrev NN : ℕ := 1024

section Deliveries

variable (c : Dev nD) (i : grid0.Coords) {T : S136.Idx → BitVec 32} (hT : PagesOk T)
  (fv : HbBuf0 (F := F) c scM0_1) (fs : HbBuf0 (F := F) c hbM0_0)

abbrev src (k : Fin k0_t1_loop.trips) : Memref sig .tc .hbm S8x2048 .bf16 := srcM i (wd (F := F) T k) (off3_inb i _ (wd_lt hT k))
abbrev fvAt (k : Fin k0_t1_loop.trips) : Buf (Elt F) ((dstM k).view.loc (c : Thread nD τ)) := fv
abbrev fsAt (k : Fin k0_t1_loop.trips) : Buf (Elt F) ((src (F := F) i hT k).view.loc (c : Thread nD τ)) := fs

/-- The rows of copy `k` once it has landed. -/
abbrev landed (k : Fin k0_t1_loop.trips) : Buf (Elt F) ((dstM k).view.loc (c : Thread nD τ)) :=
  (dstM k).view.writes (Elt F) (fvAt c fv k) [⟨Rect.whole S8x2048, ReadAs.same.apply ((src (F := F) i hT k).view.read (Elt F) (fsAt c i hT fs k))⟩]

/-- The rows copy `k` fills, by their own elements, at `g`. -/
abbrev dstPt (k : Fin k0_t1_loop.trips) (g : Buf (Elt F) ((dstM k).view.loc (c : Thread nD τ))) : sProp 𝕄 :=
  (dstM k).view.loc (c : Thread nD τ) ↦[(dstM k).view.set]{fullShare} g
/-- The rows copy `k` reads, under its own read share. -/
abbrev srcPt (k : Fin k0_t1_loop.trips) : sProp 𝕄 :=
  (src (F := F) i hT k).view.loc (c : Thread nD τ) ↦[(src (F := F) i hT k).view.set]{Transfers.shareTokN fullShare k.val} fsAt c i hT fs k

/-- What copy `k` delivers: its rows landed, and the rows it read back. -/
abbrev D (k : Fin k0_t1_loop.trips) : sProp 𝕄 := iprop(dstPt c k (landed c i hT fv fs k) ∗ srcPt c i hT fs k)

instance D_storable (k : Fin k0_t1_loop.trips) : BI.Storable (upEmb : UEmb _ 𝕄) (D c i hT fv fs k) := by
  unfold D; infer_instance

/-- All copies on the kernel's semaphore, `j` started and `u` units of credit consumed. -/
abbrev batch (j u : ℕ) : sProp 𝕄 :=
  Transfers.Batch (countersEmb (U := Pipeline.UD sig nD τ)) (c : Thread nD τ) (.dma cc0_scratch2.sem) () NN (D c i hT fv fs) j u

end Deliveries

end Cert.Kernel.Hand

end
-- ==== Proof.Kernel.Parts.lean ====
/- The kernel's body in two parts: what is done only at the first row block of a column block (`fillP`: the copies, and the
   dequantised weight tile), and what is done at every point (`tailP`: the products and the store). -/
module

public import proofs.«01_k».proof.Proof.Kernel.Dma

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option cleanup.letToHave false in
/-- What the body does at a point whose row block is the first: it starts the copies, writes the dequantised weight tile
    block by block, and waits for the copies. -/
noncomputable def fillP (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (arg0 : BitVec 32) (k0_h1 : k0_cond1 i = 1#1) :
    Prog (TpuEff nD τ sig (Elt F) Λ₀ .tc) PUnit := do
  let ⟨v27, v45⟩ : Σ' (v27 : FVec F S2048x512 .bf16), FVec F S128x512 .bf16 ← k0_part1 i arg2 harg2 arg3 harg3 arg4 harg4 arg5 harg5 arg6 harg6 arg7 harg7 arg8 harg8 arg9 harg9 arg10 harg10 arg11 harg11 arg12 arg0 k0_h1
  let v80 : FVec F S128x512 .bf16 ← k0_part2 i arg2 harg2 arg3 harg3 arg4 harg4 arg5 harg5 arg6 harg6 arg7 harg7 arg8 harg8 arg9 harg9 arg10 harg10 arg11 harg11 arg12 v27 v45
  let v115 : FVec F S128x512 .bf16 ← k0_part3 i arg2 harg2 arg3 harg3 arg4 harg4 arg5 harg5 arg6 harg6 arg7 harg7 arg8 harg8 arg9 harg9 arg10 harg10 arg11 harg11 arg12 v27 v80
  let ⟨v153, v154⟩ : Σ' (v153 : FVec F S2048x512 .bf16), FVec F S128x512 .bf16 ← k0_part4 i arg2 harg2 arg3 harg3 arg4 harg4 arg5 harg5 arg6 harg6 arg7 harg7 arg8 harg8 arg9 harg9 arg10 harg10 arg11 harg11 arg12 v27 v115
  let v189 : FVec F S128x512 .bf16 ← k0_part5 i arg2 harg2 arg3 harg3 arg4 harg4 arg5 harg5 arg6 harg6 arg7 harg7 arg8 harg8 arg9 harg9 arg10 harg10 arg11 harg11 arg12 v153 v154
  let v224 : FVec F S128x512 .bf16 ← k0_part6 i arg2 harg2 arg3 harg3 arg4 harg4 arg5 harg5 arg6 harg6 arg7 harg7 arg8 harg8 arg9 harg9 arg10 harg10 arg11 harg11 arg12 v153 v189
  let v259 : FVec F S128x512 .bf16 ← k0_part7 i arg2 harg2 arg3 harg3 arg4 harg4 arg5 harg5 arg6 harg6 arg7 harg7 arg8 harg8 arg9 harg9 arg10 harg10 arg11 harg11 arg12 v153 v224
  let ⟨v279, v297⟩ : Σ' (v279 : FVec F S2048x512 .bf16), FVec F S128x512 .bf16 ← k0_part8 i arg2 harg2 arg3 harg3 arg4 harg4 arg5 harg5 arg6 harg6 arg7 harg7 arg8 harg8 arg9 harg9 arg10 harg10 arg11 harg11 arg12 v259
  let v332 : FVec F S128x512 .bf16 ← k0_part9 i arg2 harg2 arg3 harg3 arg4 harg4 arg5 harg5 arg6 harg6 arg7 harg7 arg8 harg8 arg9 harg9 arg10 harg10 arg11 harg11 arg12 v279 v297
  let v367 : FVec F S128x512 .bf16 ← k0_part10 i arg2 harg2 arg3 harg3 arg4 harg4 arg5 harg5 arg6 harg6 arg7 harg7 arg8 harg8 arg9 harg9 arg10 harg10 arg11 harg11 arg12 v279 v332
  let v404 : IVec S2048x512 32 ← k0_part11 i arg2 harg2 arg3 harg3 arg4 harg4 arg5 harg5 arg6 harg6 arg7 harg7 arg8 harg8 arg9 harg9 arg10 harg10 arg11 harg11 arg12 v279 v367
  let ⟨v405, v440⟩ : Σ' (v405 : FVec F S2048x512 .bf16), FVec F S128x512 .bf16 ← k0_part12 i arg2 harg2 arg3 harg3 arg4 harg4 arg5 harg5 arg6 harg6 arg7 harg7 arg8 harg8 arg9 harg9 arg10 harg10 arg11 harg11 arg12 v404
  let v475 : FVec F S128x512 .bf16 ← k0_part13 i arg2 harg2 arg3 harg3 arg4 harg4 arg5 harg5 arg6 harg6 arg7 harg7 arg8 harg8 arg9 harg9 arg10 harg10 arg11 harg11 arg12 v405 v440
  let v510 : FVec F S128x512 .bf16 ← k0_part14 i arg2 harg2 arg3 harg3 arg4 harg4 arg5 harg5 arg6 harg6 arg7 harg7 arg8 harg8 arg9 harg9 arg10 harg10 arg11 harg11 arg12 v405 v475
  Prog.lift (.store arg10 (Rect.unit (s := S2048x2048) ![1792, 1536] S128x512.size inb_S2048x2048_S128x512_1792_1536) v510 Finset.univ (View.stores_vmem h_S128x512 (harg10.storeExact_slice rfl _ packedbf16_S2048x2048_S128x512_1792_1536) (fun _ => rfl)) (.inl rfl))
  let v512 : Vec F S1x512 .bf16 ← Prog.lift (.load arg7 (Rect.unit (s := S16x2048) ![15, 1536] S1x512.size inb_S16x2048_S1x512_15_1536).toLoadRect (View.loadsAt_vmem h_S1x512))
  let v515 : Vec F S128x512 .bf16 ← Prog.lift (.load arg10 (Rect.unit (s := S2048x2048) ![1920, 1536] S128x512.size inb_S2048x2048_S128x512_1920_1536).toLoadRect (View.loadsAt_vmem h_S128x512))
  Prog.lift (.store arg10 (Rect.unit (s := S2048x2048) ![1920, 1536] S128x512.size inb_S2048x2048_S128x512_1920_1536) (k0_pay1 v405 v512) Finset.univ (View.stores_vmem h_S128x512 (harg10.storeExact_slice rfl _ packedbf16_S2048x2048_S128x512_1920_1536) (fun _ => rfl)) (.inl rfl))
  Scf.Loop.for k0_t2_loop (k0_t2_ok i k0_h1) ⟨⟩ (k0_t2_body i arg2 harg2 arg3 harg3 arg4 harg4 arg5 harg5 arg6 harg6 arg7 harg7 arg8 harg8 arg9 harg9 arg10 harg10 arg11 harg11 arg12 k0_h1)
  pure ⟨⟩

set_option cleanup.letToHave false in
/-- What the body does at every point: the products, by the number of live adapters, and the store of the block. -/
noncomputable def tailP (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) :
    Prog (TpuEff nD τ sig (Elt F) Λ₀ .tc) PUnit := do
  let v3 : Elt F .i32 ← smemLoad arg2 (Rect.unit (s := S136) ![128] S1.size inb_S136_S1_128) numel1_S1 rfl
  if k0_h2 : k0_cond2 v3 = 1#1 then do
    let v11 : Vec F S1024x2048 .bf16 ← Prog.lift (.load arg3 (Rect.unit (s := S1024x2048) ![0, 0] S1024x2048.size inb_S1024x2048_S1024x2048_0_0).toLoadRect (View.loadsAt_vmem h_S1024x2048))
    let v12 : Vec F S2048x2048 .bf16 ← Prog.lift (.load arg10 (Rect.unit (s := S2048x2048) ![0, 0] S2048x2048.size inb_S2048x2048_S2048x2048_0_0).toLoadRect (View.loadsAt_vmem h_S2048x2048))
    let v14 : Vec F S1024x512 .bf16 ← Prog.lift (.load arg4 (Rect.unit (s := S1024x512) ![0, 0] S1024x512.size inb_S1024x512_S1024x512_0_0).toLoadRect (View.loadsAt_vmem h_S1024x512))
    let v15 : Vec F S512x2048 .bf16 ← Prog.lift (.load arg11 (Rect.unit (s := S1024x2048) ![0, 0] S512x2048.size inb_S1024x2048_S512x2048_0_0).toLoadRect (View.loadsAt_vmem h_S512x2048))
    let v19 : Vec F S1024x2048 .bf16 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) (k0_pay2 v11 v12 v14 v15) Finset.univ (View.stores_vmem h_S1024x2048 (harg9.storeExact_slice rfl _ packedbf16_S1024x2048_S1024x2048_0_0) (fun _ => rfl)) (.inl rfl))
    pure ⟨⟩
  else do
    pure ⟨⟩
  let v7 : Elt F .i32 ← smemLoad arg2 (Rect.unit (s := S136) ![128] S1.size inb_S136_S1_128) numel1_S1 rfl
  if k0_h3 : k0_cond3 v7 = 1#1 then do
    Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12)
    pure ⟨⟩
  else do
    pure ⟨⟩
  pure ⟨⟩

/-- At a column block's first point the body is the two parts in turn; -/
theorem main_pos (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (k0_h1 : k0_cond1 i = 1#1) :
    cc0_main_skel (F := F) i arg2 harg2 arg3 harg3 arg4 harg4 arg5 harg5 arg6 harg6 arg7 harg7 arg8 harg8 arg9 harg9 arg10 harg10 arg11 harg11 arg12 = (fillP i arg2 harg2 arg3 harg3 arg4 harg4 arg5 harg5 arg6 harg6 arg7 harg7 arg8 harg8 arg9 harg9 arg10 harg10 arg11 harg11 arg12 (BitVec.ofNat 32 (i 0).val) k0_h1 >>= fun _ => tailP i arg2 harg2 arg3 harg3 arg4 harg4 arg5 harg5 arg6 harg6 arg7 harg7 arg8 harg8 arg9 harg9 arg10 harg10 arg11 harg11 arg12) := by
  unfold cc0_main_skel
  rw [dif_pos k0_h1]
  unfold fillP
  simp only [bind_assoc, pure_bind]
  rfl

/-- at the others it is the second. -/
theorem main_neg (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (k0_h1 : ¬ k0_cond1 i = 1#1) :
    cc0_main_skel (F := F) i arg2 harg2 arg3 harg3 arg4 harg4 arg5 harg5 arg6 harg6 arg7 harg7 arg8 harg8 arg9 harg9 arg10 harg10 arg11 harg11 arg12 = tailP i arg2 harg2 arg3 harg3 arg4 harg4 arg5 harg5 arg6 harg6 arg7 harg7 arg8 harg8 arg9 harg9 arg10 harg10 arg11 harg11 arg12 := by
  unfold cc0_main_skel
  rw [dif_neg k0_h1]
  rfl

end Cert.Kernel.Hand

end
-- ==== Proof.Kernel.Tail.lean ====
/- The part of the body that runs at every point. It stores the output block: with at most two live adapters in one piece
   (`outLow`), with more in four column chunks, by a loop (`outHigh`). -/
module

public import proofs.«01_k».proof.Proof.Kernel.Parts
public import Idealize.ShloMosaic.Lib.WritesUnit
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks -/

/-- The word that says how many adapters are live. -/
abbrev liveWord (T : S136.Idx → BitVec 32) : BitVec 32 := T (fun a => match a with | ⟨0, _⟩ => ⟨128, show 128 < 136 by decide⟩)

/-- A rectangle of an array, as a vector. -/
abbrev sub {s : Shape} {α : Type} (X : s.Idx → α) (r : Rect s) : r.shape.Idx → α := fun j => X (r.emb j)

/-- A load reads the rectangle of what the memref reads. -/
theorem readAt_sub {sp : Space} {s : Shape} {e : EltTy} (M : Memref sig .tc sp s e) (r : Rect s) (f : M.view.ty.Contents (Elt F)) :
    M.view.readAt (Elt F) r.toLoadRect f = sub (M.view.read (Elt F) f) r := rfl

/-- The rectangle of the whole array is the array. -/
theorem sub_full {α : Type} {s : Shape} (X : s.Idx → α) {off : Fin s.rank → ℕ} (inb : ∀ a, off a + s.size a ≤ s.size a) :
    sub X (Rect.unit off s.size inb) = X := by
  funext y
  refine congrArg X (funext fun a => Fin.ext ?_)
  have h : off a = 0 := by have := inb a; omega
  show off a + 1 * (y a).val = (y a).val
  rw [h]; omega

/-- The block with at most two live adapters. -/
def outLow (x0 : Vec F S1024x2048 .bf16) (w : Vec F S2048x2048 .bf16) (x1 : Vec F S1024x512 .bf16) (b : Vec F S1024x2048 .bf16) : Vec F S1024x2048 .bf16 :=
  k0_pay2 x0 w x1 (sub b (Rect.unit (s := S1024x2048) ![0, 0] S512x2048.size inb_S1024x2048_S512x2048_0_0))

/-- Column chunk `q` of the block with more. -/
def chunk (x0 : Vec F S1024x2048 .bf16) (w : Vec F S2048x2048 .bf16) (x1 x2 : Vec F S1024x512 .bf16) (b : Vec F S1024x2048 .bf16) (q : Fin k0_t3_loop.trips) :
    Vec F S1024x512 .bf16 :=
  k0_pay3 x0 (sub w (Rect.unit (s := S2048x2048) (k0_off7 q) S2048x512.size (k0_off7_inb q))) x1
    (sub b (Rect.unit (s := S1024x2048) (k0_off8 q) S512x512.size (k0_off8_inb q))) x2
    (sub b (Rect.unit (s := S1024x2048) (k0_off9 q) S512x512.size (k0_off9_inb q)))

theorem trips3_eq : k0_t3_loop.trips = 4 := by decide

/-- The chunk that a column of the block is in. -/
abbrev chunkOf (y : S1024x2048.Idx) : Fin k0_t3_loop.trips := ⟨(y 1).val / 512, by
  have h : (y 1).val < 2048 := (y 1).isLt
  rw [trips3_eq]; omega⟩

/-- Its place in the chunk. -/
abbrev inChunk (y : S1024x2048.Idx) : S1024x512.Idx := fun a => match a with
  | ⟨0, _⟩ => ⟨(y 0).val, (y 0).isLt⟩
  | ⟨1, _⟩ => ⟨(y 1).val % 512, Nat.mod_lt _ (by decide)⟩

/-- The block with more than two live adapters. -/
def outHigh (x0 : Vec F S1024x2048 .bf16) (w : Vec F S2048x2048 .bf16) (x1 x2 : Vec F S1024x512 .bf16) (b : Vec F S1024x2048 .bf16) : Vec F S1024x2048 .bf16 :=
  fun y => chunk x0 w x1 x2 b (chunkOf y) (inChunk y)

/-- The block that a point stores. -/
def outBlk (T : S136.Idx → BitVec 32) (x0 : Vec F S1024x2048 .bf16) (w : Vec F S2048x2048 .bf16) (x1 x2 : Vec F S1024x512 .bf16) (b : Vec F S1024x2048 .bf16) :
    Vec F S1024x2048 .bf16 :=
  if k0_cond2 (liveWord T) = 1#1 then outLow x0 w x1 b else outHigh x0 w x1 x2 b

/-- The first conditional is taken when the word is at most two, -/
theorem cond2_iff (v : BitVec 32) : Iff (k0_cond2 v = 1#1) (v.toInt ≤ 2) := by
  have e : Scalar.cmpi .sle v 2#32 = BitVec.ofBool (decide (v.toInt ≤ 2)) := rfl
  unfold k0_cond2; dsimp only; rw [e]
  by_cases h : v.toInt ≤ 2
  · rw [decide_eq_true h]; exact iff_of_true (by decide) h
  · rw [decide_eq_false h]; exact iff_of_false (by decide) h

/-- the second when it is not. -/
theorem cond3_iff (v : BitVec 32) : Iff (k0_cond3 v = 1#1) (¬ k0_cond2 v = 1#1) := by
  rw [cond2_iff, Int.not_le]
  have e : Scalar.cmpi .sgt v 2#32 = BitVec.ofBool (decide (2 < v.toInt)) := rfl
  unfold k0_cond3; dsimp only; rw [e]
  by_cases h : 2 < v.toInt
  · rw [decide_eq_true h]; exact iff_of_true (by decide) h
  · rw [decide_eq_false h]; exact iff_of_false (by decide) h

/-- The word as the body's load reads it. -/
abbrev lw (T : S136.Idx → BitVec 32) : BitVec 32 :=
  tbM0_0.view.readAt (Elt F) (Rect.unit (s := S136) ![128] S1.size inb_S136_S1_128).toLoadRect T (Shape.Idx.first (s := S1) (numel1_S1.symm ▸ Nat.one_pos))

theorem lw_eq (T : S136.Idx → BitVec 32) : lw (F := F) T = liveWord T := by
  show T _ = T _
  refine congrArg T (funext fun a => Fin.ext ?_)
  fin_cases a
  rfl

variable (c : Dev nD) (i : grid0.Coords) {T : S136.Idx → BitVec 32}
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

theorem tail_low [∀ e, Nonempty (Elt F e)] (x0 : Vec F S1024x2048 .bf16) (w : Vec F S2048x2048 .bf16) (x1 x2 : Vec F S1024x512 .bf16) (b : Vec F S1024x2048 .bf16)
    (h2 : k0_cond2 (liveWord T) = 1#1) (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outLow x0 w x1 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  rw [← lw_eq (F := F)] at h2
  have h3 : ¬ k0_cond3 (lw (F := F) T) = 1#1 := fun h => (cond3_iff _).1 h h2
  unfold tailP owns
  iintro ⟨HT, ⟨%f0, %hf0, H0⟩, ⟨%f1, %hf1, H1⟩, ⟨%f2, %hf2, H2⟩, Hw, Hb, ⟨%d, %f9, -, H9⟩, Hk⟩
  obtain rfl := harg3.eq_unread hf0
  obtain rfl := harg4.eq_unread hf1
  obtain rfl := harg5.eq_unread hf2
  sl_exec (disch := first | sl_exact h2 | sl_exact h3)
  sl_step
  iapply Hk
  isplitl [HT]; · iexact HT
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [Hw]; · iexact Hw
  isplitl [Hb]; · iexact Hb
  iexists _; isplitr; swap; · iexact H9
  ipureintro
  rw [View.read_writes_full]
  simp only [readAt_sub, harg3.read_unread, harg4.read_unread]
  unfold outLow
  rw [sub_full x0, sub_full x1]
  exact congrArg (fun v => k0_pay2 x0 v x1 _) (sub_full w _)

/-- Before trip `k` of the chunk loop: the first `k` chunks of the block stored. -/
def highAt (x0 : Vec F S1024x2048 .bf16) (w : Vec F S2048x2048 .bf16) (x1 x2 : Vec F S1024x512 .bf16) (b : Vec F S1024x2048 .bf16) (k : ℕ) (_ : Unit) : sProp 𝕄 :=
  iprop(owns (c : Thread nD τ) arg3 fullShare x0 ∗ owns (c : Thread nD τ) arg4 fullShare x1 ∗ owns (c : Thread nD τ) arg5 fullShare x2
    ∗ hbPt0 c scM0_0 w ∗ hbPt0 c scM0_1 b
    ∗ (∃ f, (arg9.view.loc (c : Thread nD τ) ↦[arg9.view.set]{fullShare} f)
        ∗ ⌜∀ y : S1024x2048.Idx, (y 1).val < 512 * k → arg9.view.read (Elt F) f y = outHigh x0 w x1 x2 b y⌝))

theorem high_step [∀ e, Nonempty (Elt F e)] (x0 : Vec F S1024x2048 .bf16) (w : Vec F S2048x2048 .bf16) (x1 x2 : Vec F S1024x512 .bf16) (b : Vec F S1024x2048 .bf16)
    (k : Fin k0_t3_loop.trips) (acc : Unit) :
    highAt c arg3 arg4 arg5 arg9 x0 w x1 x2 b k acc
      ⊢ wp frame (wpE (defs₀ (F := F)) Variants.none (c : Thread nD τ) none) Set.univ
          (k0_t3_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 k acc)
          (highAt c arg3 arg4 arg5 arg9 x0 w x1 x2 b (k.val + 1)) := by
  unfold highAt owns
  dsimp only [k0_t3_body]
  iintro ⟨⟨%f0, %hf0, H0⟩, ⟨%f1, %hf1, H1⟩, ⟨%f2, %hf2, H2⟩, Hw, Hb, ⟨%f9, H9, %hf9⟩⟩
  obtain rfl := harg3.eq_unread hf0
  obtain rfl := harg4.eq_unread hf1
  obtain rfl := harg5.eq_unread hf2
  sl_exec
  sl_step
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [Hw]; · iexact Hw
  isplitl [Hb]; · iexact Hb
  iexists _; isplitl [H9]; · iexact H9
  ipureintro
  intro y hy
  by_cases h : 512 * k.val ≤ (y 1).val
  · have hx : ∀ a, (y a).val = (![0, 512 * k.val] : Fin 2 → ℕ) a + (inChunk y a).val := by
      intro a; fin_cases a
      · show (y 0).val = 0 + (y 0).val; omega
      · show (y 1).val = 512 * k.val + (y 1).val % 512; omega
    refine (View.read_writes_cons_unit_of_mem (v := arg9.view) _ _ _ _ y (inChunk y) (k0_off10_eq k) hx).trans ?_
    have hq : chunkOf y = k := Fin.ext (show (y 1).val / 512 = k.val by omega)
    unfold outHigh; rw [hq]
    refine congrFun ?_ (inChunk y)
    simp only [readAt_sub, harg3.read_unread, harg4.read_unread, harg5.read_unread]
    rw [sub_full x0, sub_full x1, sub_full x2]
    rfl
  · refine (View.read_writes_cons_unit_of_not_mem (v := arg9.view) _ _ _ _ y (k0_off10_eq k) 1 (.inl ?_)).trans (hf9 y (by omega))
    show (y 1).val < 512 * k.val; omega

theorem tail_high [∀ e, Nonempty (Elt F e)] (x0 : Vec F S1024x2048 .bf16) (w : Vec F S2048x2048 .bf16) (x1 x2 : Vec F S1024x512 .bf16) (b : Vec F S1024x2048 .bf16)
    (h2 : ¬ k0_cond2 (liveWord T) = 1#1) (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outHigh x0 w x1 x2 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  rw [← lw_eq (F := F)] at h2
  have h3 : k0_cond3 (lw (F := F) T) = 1#1 := (cond3_iff _).2 h2
  unfold tailP
  iintro ⟨HT, H0, H1, H2, Hw, Hb, ⟨%d, H9⟩, Hk⟩
  sl_exec (disch := first | sl_exact h2 | sl_exact h3)
  sl_for (highAt c arg3 arg4 arg5 arg9 x0 w x1 x2 b) $$ [H0 H1 H2 Hw Hb H9]
  · intro k acc; exact high_step c i arg3 harg3 arg4 harg4 arg5 harg5 arg6 harg6 arg7 harg7 arg9 harg9 x0 w x1 x2 b k acc
  · iapply (show iprop(owns (c : Thread nD τ) arg3 fullShare x0 ∗ owns (c : Thread nD τ) arg4 fullShare x1 ∗ owns (c : Thread nD τ) arg5 fullShare x2
        ∗ hbPt0 c scM0_0 w ∗ hbPt0 c scM0_1 b ∗ owns (c : Thread nD τ) arg9 fullShare d) ⊢ highAt c arg3 arg4 arg5 arg9 x0 w x1 x2 b 0 () from by
      unfold highAt
      iintro ⟨H0, H1, H2, Hw, Hb, H9⟩
      isplitl [H0]; · iexact H0
      isplitl [H1]; · iexact H1
      isplitl [H2]; · iexact H2
      isplitl [Hw]; · iexact Hw
      isplitl [Hb]; · iexact Hb
      unfold owns
      icases H9 with ⟨%f, -, H9⟩
      iexists _; isplitl [H9]; · iexact H9
      ipureintro; intro y hy; omega)
    isplitl [H0]; · iexact H0
    isplitl [H1]; · iexact H1
    isplitl [H2]; · iexact H2
    isplitl [Hw]; · iexact Hw
    isplitl [Hb]; · iexact Hb
    iexact H9
  iintro %acc HL
  ihave HL' := (show highAt c arg3 arg4 arg5 arg9 x0 w x1 x2 b k0_t3_loop.trips acc
      ⊢ iprop(owns (c : Thread nD τ) arg3 fullShare x0 ∗ owns (c : Thread nD τ) arg4 fullShare x1 ∗ owns (c : Thread nD τ) arg5 fullShare x2
        ∗ hbPt0 c scM0_0 w ∗ hbPt0 c scM0_1 b ∗ owns (c : Thread nD τ) arg9 fullShare (outHigh x0 w x1 x2 b)) from by
    unfold highAt
    iintro ⟨H0, H1, H2, Hw, Hb, ⟨%f, H9, %hf⟩⟩
    isplitl [H0]; · iexact H0
    isplitl [H1]; · iexact H1
    isplitl [H2]; · iexact H2
    isplitl [Hw]; · iexact Hw
    isplitl [Hb]; · iexact Hb
    unfold owns
    iexists f; isplitr
    · ipureintro; funext y
      refine hf y ?_
      have hy : (y 1).val < 2048 := (y 1).isLt
      rw [trips3_eq]; omega
    iexact H9) $$ HL
  icases HL' with ⟨H0, H1, H2, Hw, Hb, H9⟩
  sl_exec
  sl_step
  iapply Hk
  isplitl [HT]; · iexact HT
  isplitl [H0]; · iexact H0
  isplitl [H1]; · iexact H1
  isplitl [H2]; · iexact H2
  isplitl [Hw]; · iexact Hw
  isplitl [Hb]; · iexact Hb
  iexact H9

/-- The part that runs at every point stores `outBlk`. -/
theorem tail_run [∀ e, Nonempty (Elt F e)] (x0 : Vec F S1024x2048 .bf16) (w : Vec F S2048x2048 .bf16) (x1 x2 : Vec F S1024x512 .bf16) (b : Vec F S1024x2048 .bf16)
    (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outBlk T x0 w x1 x2 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  unfold outBlk
  by_cases h2 : k0_cond2 (liveWord T) = 1#1
  · rw [if_pos h2]; exact tail_low c i arg3 harg3 arg4 harg4 arg5 harg5 arg6 harg6 arg7 harg7 arg9 harg9 x0 w x1 x2 b h2 K
  · rw [if_neg h2]; exact tail_high c i arg3 harg3 arg4 harg4 arg5 harg5 arg6 harg6 arg7 harg7 arg9 harg9 x0 w x1 x2 b h2 K

end Cert.Kernel.Hand

end
-- ==== Proof.Kernel.Tile.lean ====
/- The dequantised weight tile. Each packed word holds eight 4-bit codes, the least significant first; the tile's element is a
   code, read as a signed number, times its row group's scale. The body writes it in 64 blocks of 128 rows and 512 columns. -/
module

public import proofs.«01_k».proof.Proof.Kernel.Tail
public import Idealize.ShloMosaic.Lib.Pointwise

@[expose] public section

set_option maxRecDepth 16384

noncomputable section

namespace Cert.Kernel.Hand

open Cert.Kernel.Gen
open Idealize.ShloMosaic Idealize.ShloMosaic.TcCoe Idealize.ShloMosaic.Tactic

variable {F : FTy → Type} [FloatOps F]

/-- The 4-bit code at place `p` of a word, sign-extended: shifted up to the top, then down with the sign. -/
def nib (w : BitVec 32) (p : ℕ) : BitVec 32 :=
  IntOp.shrsi .vector (IntOp.shli .vector w (IntOp.subi 28#32 (IntOp.muli 4#32 (BitVec.ofNat 32 p)))) 28#32

/-- The tile's element: the code that the packed words hold for its row, times the scale of its group of 128 rows. -/
def wfull (x3 : Vec F S256x2048 .i32) (x4 : Vec F S16x2048 .bf16) : Vec F S2048x2048 .bf16 := fun y =>
  FloatOps.mulf
    (FloatOps.sitofp (F := F) .bf16 (nib (x3 (ix2 ⟨(y 0).val / 8, by have h : (y 0).val < 2048 := (y 0).isLt; omega⟩ (y 1))) ((y 0).val % 8)))
    (x4 (ix2 ⟨(y 0).val / 128, by have h : (y 0).val < 2048 := (y 0).isLt; omega⟩ (y 1)))

theorem codes_apply (v : Vec F S256x512 .i32) (y : S2048x512.Idx) :
    k0_pay4 v y = FloatOps.sitofp (F := F) .bf16
      (nib (v (ix2 ⟨(y 0).val / 8, by have h : (y 0).val < 2048 := (y 0).isLt; omega⟩ (y 1))) ((y 0).val % 8)) := by
  unfold k0_pay4 nib
  simp only [sitofp, shrsi, shli, subi, muli, broadcast]
  pointwise

/-- One block of the tile, as the body computes it: rows `o = 128 g` on, columns `p` on. -/
theorem piece_ok (arg6 : Memref sig .tc .vmem S256x2048 .i32) (harg6 : arg6.IsWhole) (arg7 : Memref sig .tc .vmem S16x2048 .bf16) (harg7 : arg7.IsWhole)
    (x3 : Vec F S256x2048 .i32) (x4 : Vec F S16x2048 .bf16) (g o p : ℕ) (ho : o = 128 * g)
    (i1 : ∀ a, (![0, p] : Fin 2 → ℕ) a + (![256, 512] : Fin 2 → ℕ) a ≤ S256x2048.size a)
    (i2 : ∀ a, (![g, p] : Fin 2 → ℕ) a + (![1, 512] : Fin 2 → ℕ) a ≤ S16x2048.size a)
    (i3 : ∀ a, (![o, p] : Fin 2 → ℕ) a + (![128, 512] : Fin 2 → ℕ) a ≤ S2048x2048.size a)
    (hs : S2048x512.Slices ![o, 0] S128x512) (hb : S1x512.Broadcasts S128x512) (hc : S128x512.ShapeCasts S128x512) (x : S128x512.Idx) :
    shapeCast S128x512 (mulf (φ := .bf16)
        (extractStridedSlice S128x512 ![o, 0] (k0_pay4 (View.readAt (Elt F) arg6.view (Rect.unit (s := S256x2048) ![0, p] ![256, 512] i1).toLoadRect (harg6.unread x3))) hs)
        (broadcastTo S128x512 (View.readAt (Elt F) arg7.view (Rect.unit (s := S16x2048) ![g, p] ![1, 512] i2).toLoadRect (harg7.unread x4)) hb)) hc x
      = wfull x3 x4 ((Rect.unit (s := S2048x2048) ![o, p] ![128, 512] i3).emb x) := by
  subst ho
  have hx0 : (x 0).val < 128 := (x 0).isLt
  have hx1 : (x 1).val < 512 := (x 1).isLt
  have e : Shape.reshapeEquiv hc x = x := Shape.reshapeEquiv_eq_of_rowMajor _ rfl
  simp only [shapeCast, e, mulf, extractStridedSlice, codes_apply, readAt_sub, harg6.read_unread, harg7.read_unread]
  unfold wfull sub
  refine congrArg₂ _ (congrArg _ (congrArg₂ nib (congrArg x3 (funext fun a => Fin.ext ?_)) ?_)) (congrArg x4 (funext fun a => Fin.ext ?_))
  · match a with
    | ⟨0, _⟩ => show 0 + 1 * ((128 * g + (x 0).val) / 8) = (128 * g + 1 * (x 0).val) / 8; omega
    | ⟨1, _⟩ => show p + 1 * (0 + (x 1).val) = p + 1 * (x 1).val; omega
  · show (128 * g + (x 0).val) % 8 = (128 * g + 1 * (x 0).val) % 8; omega
  · match a with
    | ⟨0, _⟩ => show g + 1 * 0 = (128 * g + 1 * (x 0).val) / 128; omega
    | ⟨1, _⟩ => show p + 1 * (x 1).val = p + 1 * (x 1).val; omega

end Cert.Kernel.Hand

end
-- ==== Proof.Kernel.Loops.lean ====
/- One trip of each transfer loop: trip `k` of the first starts copy `k`; trip `k` of the second waits once, and the last
   wait hands back everything that was copied. -/
module

public import proofs.«01_k».proof.Proof.Kernel.Dma

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T)
  (fv : HbBuf0 (F := F) c scM0_1) (fs : HbBuf0 (F := F) c hbM0_0)
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

/-- Before trip `k` of the first loop: `k` copies started, none waited for; the rows and read shares of the copies from
    `k` on still in hand; the page words. -/
def issueAt (k : ℕ) (_ : Unit) : sProp 𝕄 :=
  iprop(batch c i hT fv fs k 0
    ∗ bigSep (Ring.rangeSet k0_t1_loop.trips k k0_t1_loop.trips) (fun t => dstPt c t (fvAt c fv t))
    ∗ bigSep (Ring.rangeSet k0_t1_loop.trips k k0_t1_loop.trips) (fun t => srcPt c i hT fs t)
    ∗ tbPt0 c tbM0_0 T)

theorem issue_step [∀ e, Nonempty (Elt F e)] (arg0 : BitVec 32) (h1 : k0_cond1 i = 1#1) (k : Fin k0_t1_loop.trips) (acc : Unit) :
    issueAt c i hT fv fs k acc
      ⊢ wp frame (wpE (defs₀ (F := F)) Variants.none (c : Thread nD τ) none) Set.univ
          (k0_t1_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 arg0 h1 k acc)
          (issueAt c i hT fv fs (k.val + 1)) := by
  have hkT : k.val < 128 := trips1_eq ▸ k.isLt
  have hchk : k0_chk1 i (wd (F := F) T k) := chk1_of i _ (wd_lt hT k)
  unfold issueAt
  rw [Ring.bigSep_rangeSet_head (Φ := fun t => dstPt c t (fvAt c fv t)) k.isLt k.isLt,
    Ring.bigSep_rangeSet_head (Φ := fun t => srcPt c i hT fs t) k.isLt k.isLt]
  iintro ⟨HB, ⟨HP, HPs⟩, ⟨HS, HSs⟩, H0⟩
  dsimp only [k0_t1_body]
  sl_exec (disch := first | exact hchk)
  sl_step
  isplitl [HB]; · iexact HB
  isplitl [HPs]; · iexact HPs
  isplitl [HSs]; · iexact HSs
  iexact H0

/-- Before trip `k` of the second loop: the waits so far recorded, the page words, and either the batch with `k` copies'
    credit consumed or, after the last trip, the semaphore back at zero and everything delivered. -/
def drainAt (k : ℕ) (_ : Unit) : sProp 𝕄 :=
  iprop((∃ W, owes (c : Thread nD τ) 0 W) ∗ tbPt0 c tbM0_0 T
    ∗ (if k < k0_t2_loop.trips then batch c i hT fv fs k0_t1_loop.trips (k * NN)
       else iprop(semVal ((c : Thread nD τ), SemLoc.dma cc0_scratch2.sem) 0 ∗ bigSep Finset.univ (D c i hT fv fs))))

theorem drain_step [∀ e, Nonempty (Elt F e)] (h1 : k0_cond1 i = 1#1) (k : Fin k0_t2_loop.trips) (acc : Unit) :
    drainAt c i hT fv fs k acc
      ⊢ wp frame (wpE (defs₀ (F := F)) Variants.none (c : Thread nD τ) none) Set.univ
          (k0_t2_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 h1 k acc)
          (drainAt c i hT fv fs (k.val + 1)) := by
  have hk : k.val < k0_t2_loop.trips := k.isLt
  have e1 := trips1_eq
  have e2 := trips2_eq
  have hchk : k0_chk2 i (wd (F := F) T k) := chk2_of i _ (wd_lt hT k)
  unfold drainAt
  simp only [if_pos hk]
  rcases Nat.lt_or_ge (k.val + 1) k0_t2_loop.trips with hk1 | hk1
  · simp only [if_pos hk1]
    iintro ⟨⟨%W, HO⟩, H0, HB⟩
    dsimp only [k0_t2_body]
    sl_exec (disch := exact hchk)
    sl_step
    isplitl [HO]; · iexists _; iexact HO
    isplitl [H0]; · iexact H0
    rw [show (k.val + 1) * NN = k.val * NN + NN from Nat.succ_mul _ _]
    iexact HB
  · simp only [if_neg (Nat.not_lt.mpr hk1)]
    iintro ⟨⟨%W, HO⟩, H0, HB⟩
    dsimp only [k0_t2_body]
    sl_exec (disch := exact hchk)
    sl_step
    isplitl [HO]; · iexists _; iexact HO
    isplitl [H0]; · iexact H0
    isplitl [HB]; · iexact HB
    iexact HB_all

end Cert.Kernel.Hand

end
-- ==== Proof.Kernel.Pages.lean ====
/- The VMEM buffer by the rows of the 128 copies, the pool by its 128 read shares, and what the buffer holds once every
   copy has landed: `pageRows`. -/
module

public import proofs.«01_k».proof.Proof.Kernel.Dma

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T)
  (fv : HbBuf0 (F := F) c scM0_1) (fs : HbBuf0 (F := F) c hbM0_0)

/-- Where row `y 0`, column `y 1` of the VMEM buffer comes from in the pool: row `y 0 % 8` of the page that word
    `y 0 / 8` names, column `y 1` of the current column block. -/
def pix (y : S1024x2048.Idx) : S1000x8192.Idx := fun a => match a with
  | ⟨0, _⟩ => ⟨(T (wix ⟨(y 0).val / 8, by have : (y 0).val < 1024 := (y 0).isLt; omega⟩)).toNat * 8 + (y 0).val % 8, by
      have := hT ⟨(y 0).val / 8, by have : (y 0).val < 1024 := (y 0).isLt; omega⟩
      show _ < 1000; omega⟩
  | ⟨1, _⟩ => ⟨(i 0).val * 2048 + (y 1).val, by
      have : (y 1).val < 2048 := (y 1).isLt
      have := col_lt i
      show _ < 8192; omega⟩

/-- The VMEM buffer after the copies. -/
def pageRows (P : S1000x8192.Idx → Elt F .bf16) : S1024x2048.Idx → Elt F .bf16 := fun y => P (pix i hT y)

theorem dstSet_eq (k : Fin k0_t1_loop.trips) : (dstM k).view.set = (Rect.unit (s := S1024x2048) (k0_off2 k) S8x2048.size (off2_inb k)).set := by
  unfold dstM; exact View.set_slice_whole _ _

theorem mem_dstSet (k : Fin k0_t1_loop.trips) (y : S1024x2048.Idx) : y ∈ (Rect.unit (s := S1024x2048) (k0_off2 k) S8x2048.size (off2_inb k)).set ↔ (y 0).val / 8 = k.val := by
  rw [Rect.mem_set_unit, off2_eq k]
  have h0 : (y 0).val < 1024 := (y 0).isLt
  have h1 : (y 1).val < 2048 := (y 1).isLt
  constructor
  · intro H; have a0 : 8 * k.val ≤ (y 0).val ∧ (y 0).val < 8 * k.val + 8 := H 0; omega
  · intro H a; fin_cases a
    · show 8 * k.val ≤ (y 0).val ∧ (y 0).val < 8 * k.val + 8; omega
    · show 0 ≤ (y 1).val ∧ (y 1).val < 0 + 2048; omega

/-- The rows of copy `k`. -/
abbrev rows (k : Fin k0_t1_loop.trips) : Finset S1024x2048.Idx := (Rect.unit (s := S1024x2048) (k0_off2 k) S8x2048.size (off2_inb k)).set
theorem rows_disjoint : ∀ k k' : Fin k0_t1_loop.trips, k ≠ k' → Disjoint (rows k) (rows k') := fun k k' hne => by
  rw [Finset.disjoint_left]; intro y hy hy'; rw [mem_dstSet] at hy hy'; exact hne (Fin.ext (by omega))
theorem rows_cover : Finset.univ.biUnion rows = Finset.univ := by
  ext y; simp only [Finset.mem_biUnion, Finset.mem_univ, true_and, iff_true]
  have h0 : (y 0).val < 1024 := (y 0).isLt
  exact ⟨⟨(y 0).val / 8, by rw [trips1_eq]; omega⟩, (mem_dstSet _ _).mpr rfl⟩

/-- Element `x` of the rows of copy `k`, in the buffer. -/
abbrev emb0 (k : Fin k0_t1_loop.trips) (x : S8x2048.Idx) : S1024x2048.Idx := (dstM k).view.emb x

/-- On the rows of copy `k`, what landed is `pageRows`. -/
theorem landed_on (k : Fin k0_t1_loop.trips) (y : S1024x2048.Idx) (hy : y ∈ (dstM k).view.set) :
    landed c i hT fv fs k y = pageRows i hT fs y := by
  obtain ⟨x, -, rfl⟩ := Finset.mem_map.mp hy
  have hw := wd_lt (F := F) hT k
  have e3 := off3_eq i (wd (F := F) T k) hw
  have e30 : k0_off3 i (wd (F := F) T k) 0 = (wd (F := F) T k).toNat * 8 := congrFun e3 0
  have e31 : k0_off3 i (wd (F := F) T k) 1 = (i 0).val * 2048 := congrFun e3 1
  have e20 : k0_off2 k 0 = 8 * k.val := congrFun (off2_eq k) 0
  have e21 : k0_off2 k 1 = 0 := congrFun (off2_eq k) 1
  have hk : k.val < 128 := trips1_eq ▸ k.isLt
  have x0 : (x 0).val < 8 := (x 0).isLt
  have x1 : (x 1).val < 2048 := (x 1).isLt
  unfold landed
  rw [← View.write_univ_eq_writes_whole]
  refine (View.write_emb_of_mem _ _ (Finset.mem_univ x)).trans ?_
  have hy0 : (emb0 k x 0).val = k0_off2 k 0 + 1 * (x 0).val := rfl
  have hy1 : (emb0 k x 1).val = k0_off2 k 1 + 1 * (x 1).val := rfl
  show fs _ = fs _
  refine congrArg fs (funext fun a => Fin.ext ?_)
  fin_cases a
  · show k0_off3 i (wd (F := F) T k) 0 + 1 * (x 0).val = (T (wix ⟨(emb0 k x 0).val / 8, _⟩)).toNat * 8 + (emb0 k x 0).val % 8
    have e : (⟨(emb0 k x 0).val / 8, by rw [hy0, e20]; omega⟩ : Fin 128) = k.cast trips1_eq := Fin.ext (by
      show (emb0 k x 0).val / 8 = k.val
      rw [hy0, e20]; omega)
    rw [e30, e, ← wd_eq (F := F) T k, hy0, e20]; omega
  · show k0_off3 i (wd (F := F) T k) 1 + 1 * (x 1).val = (i 0).val * 2048 + (emb0 k x 1).val
    rw [e31, hy1, e21]; omega

/-! ## The buffer and the pool, apart and together -/

theorem buf_split (g : HbBuf0 (F := F) c scM0_1) :
    (hbPt0 c scM0_1 g : sProp 𝕄) = bigSep Finset.univ (fun k => dstPt c k (fvAt c g k)) := by
  refine (Ring.pointsTo_blocks (ℓ := scM0_1.view.loc (c : Thread nD τ)) (q := fullShare) rows rows_disjoint rows_cover g).trans ?_
  refine BI.bigSep_congr fun k _ => ?_
  unfold dstPt; rw [dstSet_eq]; rfl

theorem buf_join : (bigSep Finset.univ (fun k => dstPt c k (landed c i hT fv fs k)) : sProp 𝕄) = hbPt0 c scM0_1 (pageRows i hT fs) := by
  rw [buf_split]
  exact BI.bigSep_congr fun k _ => pointsTo_congr fun y hy => landed_on c i hT fv fs k y hy

/-- The part of the pool that copy `k` does not read, under its share. -/
abbrev restPt (k : Fin k0_t1_loop.trips) : sProp 𝕄 :=
  hbM0_0.view.loc (c : Thread nD τ) ↦[Finset.univ \ (src (F := F) i hT k).view.set]{Transfers.shareTokN fullShare k.val} fs
/-- What is left of the pool's full share beside the copies' shares. -/
abbrev dropPt : sProp 𝕄 := hbM0_0.view.loc (c : Thread nD τ) ↦[Finset.univ]{Transfers.shareDrop fullShare k0_t1_loop.trips} fs

theorem pool_split :
    (hbPt0 c hbM0_0 fs : sProp 𝕄) = iprop(dropPt c fs ∗ (bigSep Finset.univ (fun k => srcPt c i hT fs k) ∗ bigSep Finset.univ (fun k => restPt c i hT fs k))) := by
  have h1 := Transfers.pointsTo_toks_range (Ix := Unit) (Val := Elt F) (Name := ℕ) (U := Pipeline.UD sig nD τ) (Lvl := ℕ)
    (ℓ := hbM0_0.view.loc (c : Thread nD τ)) (S := Finset.univ) (f := fs) fullShare k0_t1_loop.trips
  have h2 : ∀ k : Fin k0_t1_loop.trips,
      (hbM0_0.view.loc (c : Thread nD τ) ↦[Finset.univ]{Transfers.shareTokN fullShare k.val} fs : sProp 𝕄) = iprop(srcPt c i hT fs k ∗ restPt c i hT fs k) := fun k =>
    have h : (hbM0_0.view.loc (c : Thread nD τ) ↦[Finset.univ]{Transfers.shareTokN fullShare k.val} fs : sProp 𝕄) ⊣⊢ iprop(srcPt c i hT fs k ∗ restPt c i hT fs k) :=
      pointsTo_split_subset (Finset.subset_univ _)
    BI.equiv_iff.mp ⟨h.1, h.2⟩
  refine (BI.equiv_iff.mp ⟨h1.1, h1.2⟩ : (hbPt0 c hbM0_0 fs : sProp 𝕄) = _).trans ?_
  rw [← Ring.bigSep_fin_eq_range k0_t1_loop.trips
    (fun k => (hbM0_0.view.loc (c : Thread nD τ) ↦[Finset.univ]{Transfers.shareTokN fullShare k.val} fs : sProp 𝕄)) _ (fun _ _ => rfl),
    BI.bigSep_congr (fun k _ => h2 k)]
  exact congrArg (fun A : sProp 𝕄 => iprop(dropPt c fs ∗ A)) (BI.bigSep_sep _ _ _)

/-- Everything delivered: the buffer at `pageRows`, and the shares of the pool back. -/
theorem deliveries :
    (bigSep Finset.univ (D c i hT fv fs) : sProp 𝕄)
      = iprop(hbPt0 c scM0_1 (pageRows i hT fs) ∗ bigSep Finset.univ (fun k => srcPt c i hT fs k)) := by
  rw [← buf_join c i hT fv fs]; exact BI.bigSep_sep _ _ _

end Cert.Kernel.Hand

end
-- ==== Proof.Kernel.Fill.lean ====
/- The part of the body that runs at a column block's first point. It leaves in the one buffer the page rows, and in the other the
   dequantised weight tile. -/
module

public import proofs.«01_k».proof.Proof.Kernel.Tile
public import proofs.«01_k».proof.Proof.Kernel.Loops
public import proofs.«01_k».proof.Proof.Kernel.Pages
public import Idealize.ShloMosaic.Lib.Tactic.Stretches
public import Idealize.ShloMosaic.Lib.Pipeline.ReadBack
public import Idealize.ShloMosaic.Lib.Ring

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T) (fs : HbBuf0 (F := F) c hbM0_0)
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

/-- A buffer whose stores are all blocks of the tile, and which they cover, holds the tile. -/
theorem wbuf_done [∀ e, Nonempty (Elt F e)] (x3 : Vec F S256x2048 .i32) (x4 : Vec F S16x2048 .bf16) (fw : HbBuf0 (F := F) c scM0_0) (L : List (View.Piece (Elt F) S2048x2048 .bf16))
    (hp : View.PiecesOf (wfull x3 x4) L) (hc : ∀ y, ∃ p ∈ L, y ∈ p.1.set) :
    scM0_0.view.writes (Elt F) fw L = wfull x3 x4 := by
  have h := View.read_writes_eq_canon scM0_0.view fw L hc
  refine (show scM0_0.view.writes (Elt F) fw L = scM0_0.view.read (Elt F) (scM0_0.view.writes (Elt F) fw L) from rfl).trans (h.trans (funext fun y => ?_))
  exact (congrArg (fun l => View.canon l y) (List.append_nil L).symm).trans (View.canon_append_of_piecesOf _ [] L hp y (hc y))

set_option maxHeartbeats 8000000 in
theorem fill_run [∀ e, Nonempty (Elt F e)] (x3 : Vec F S256x2048 .i32) (x4 : Vec F S16x2048 .bf16) (arg0 : BitVec 32) (h1 : k0_cond1 i = 1#1)
    (W : Waits sig Unit) (K : PUnit → sProp 𝕄) :
    iprop(tbPt0 c tbM0_0 T ∗ owns (c : Thread nD τ) arg6 fullShare x3 ∗ owns (c : Thread nD τ) arg7 fullShare x4
        ∗ (∃ d, hbPt0 c scM0_0 d) ∗ (∃ d, hbPt0 c scM0_1 d)
        ∗ semVal ((c : Thread nD τ), SemLoc.dma cc0_scratch2.sem) 0 ∗ hbPt0 c hbM0_0 fs ∗ owes (c : Thread nD τ) 0 W
        ∗ (iprop(tbPt0 c tbM0_0 T ∗ owns (c : Thread nD τ) arg6 fullShare x3 ∗ owns (c : Thread nD τ) arg7 fullShare x4
            ∗ hbPt0 c scM0_0 (wfull x3 x4) ∗ hbPt0 c scM0_1 (pageRows i hT fs)
            ∗ semVal ((c : Thread nD τ), SemLoc.dma cc0_scratch2.sem) 0 ∗ hbPt0 c hbM0_0 fs ∗ (∃ W, owes (c : Thread nD τ) 0 W)) -∗ K ⟨⟩))
      ⊢ wp frame (wpE (defs₀ (F := F)) Variants.none (c : Thread nD τ) none) Set.univ
          (fillP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 arg0 h1) K := by
  unfold fillP owns
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [bind_assoc, pure_bind]
  rw [pool_split c i hT fs]
  iintro ⟨HT, ⟨%f3, %hf3, H3⟩, ⟨%f4, %hf4, H4⟩, ⟨%fw, Hw⟩, ⟨%fv, Hb⟩, Hc, ⟨Hd, HsP, HsR⟩, HO, Hk⟩
  obtain rfl := harg6.eq_unread hf3
  obtain rfl := harg7.eq_unread hf4
  ihave HvP := (Entails.of_eq (buf_split c fv)) $$ Hb
  imod (Transfers.batch_alloc' (Lvl := ℕ) (countersEmb (U := Pipeline.UD sig nD τ)) (c : Thread nD τ) () NN (D c i hT fv fs) (sm := .dma cc0_scratch2.sem) (E := Set.univ)) $$ Hc with HB
  sl_for (issueAt c i hT fv fs) $$ [HB HvP HsP HT]
  · intro k acc; exact issue_step c i hT fv fs arg3 harg3 arg4 harg4 arg5 harg5 arg6 harg6 arg7 harg7 arg9 harg9 arg0 h1 k acc
  · iapply (show iprop(batch c i hT fv fs 0 0 ∗ bigSep Finset.univ (fun t => dstPt c t (fvAt c fv t)) ∗ bigSep Finset.univ (fun t => srcPt c i hT fs t) ∗ tbPt0 c tbM0_0 T)
        ⊢ issueAt c i hT fv fs 0 () from by
      unfold issueAt; rw [Ring.rangeSet_univ])
    isplitl [HB]; · iexact HB
    isplitl [HvP]; · iexact HvP
    isplitl [HsP]; · iexact HsP
    iexact HT
  iintro %acc HL
  ihave HL' := (show issueAt c i hT fv fs k0_t1_loop.trips acc ⊢ iprop(batch c i hT fv fs k0_t1_loop.trips 0 ∗ tbPt0 c tbM0_0 T) from by
    unfold issueAt; simp only [Ring.bigSep_rangeSet_empty (Nat.le_refl _)]
    iintro ⟨A, -, -, B⟩; isplitl [A] <;> iassumption) $$ HL
  icases HL' with ⟨HB, HT⟩
  sl_exec
  sl_for (drainAt c i hT fv fs) $$ [HO HT HB]
  · intro k acc; exact drain_step c i hT fv fs arg3 harg3 arg4 harg4 arg5 harg5 arg6 harg6 arg7 harg7 arg9 harg9 h1 k acc
  · iapply (show iprop((∃ W, owes (c : Thread nD τ) 0 W) ∗ tbPt0 c tbM0_0 T ∗ batch c i hT fv fs k0_t1_loop.trips 0) ⊢ drainAt c i hT fv fs 0 () from by
      unfold drainAt; rw [if_pos (by rw [trips2_eq]; decide), Nat.zero_mul])
    isplitl [HO]; · iexists W; iexact HO
    isplitl [HT]; · iexact HT
    iexact HB
  iintro %acc2 HL
  ihave HL' := (show drainAt c i hT fv fs k0_t2_loop.trips acc2 ⊢ iprop((∃ W, owes (c : Thread nD τ) 0 W) ∗ tbPt0 c tbM0_0 T
      ∗ semVal ((c : Thread nD τ), SemLoc.dma cc0_scratch2.sem) 0 ∗ hbPt0 c scM0_1 (pageRows i hT fs) ∗ bigSep Finset.univ (fun k => srcPt c i hT fs k)) from by
    unfold drainAt; rw [if_neg (Nat.lt_irrefl _), deliveries]) $$ HL
  icases HL' with ⟨HO, HT, Hc, Hb, HsP⟩
  sl_exec
  rw [wp_ret]
  imodintro
  iapply Hk
  isplitl [HT]; · iexact HT
  isplitl [H3]; · iexists _; isplitr; · ipureintro; exact hf3
                  iexact H3
  isplitl [H4]; · iexists _; isplitr; · ipureintro; exact hf4
                  iexact H4
  isplitl [Hw]
  · iapply (Entails.of_eq (congrArg (fun d => (hbPt0 c scM0_0 d : sProp 𝕄)) (wbuf_done c x3 x4 scM0_0.view.junk _ ?_ ?_)))
    pick_goal 3
    · iexact Hw
    · sl_open_run
      exact ⟨
        piece_ok arg6 harg6 arg7 harg7 x3 x4 15 1920 1536 rfl _ _ inb_S2048x2048_S128x512_1920_1536 slices_S2048x512_o1920_0_S128x512 _ _,
        piece_ok arg6 harg6 arg7 harg7 x3 x4 14 1792 1536 rfl _ _ inb_S2048x2048_S128x512_1792_1536 slices_S2048x512_o1792_0_S128x512 _ _,
        piece_ok arg6 harg6 arg7 harg7 x3 x4 13 1664 1536 rfl _ _ inb_S2048x2048_S128x512_1664_1536 slices_S2048x512_o1664_0_S128x512 _ _,
        piece_ok arg6 harg6 arg7 harg7 x3 x4 12 1536 1536 rfl _ _ inb_S2048x2048_S128x512_1536_1536 slices_S2048x512_o1536_0_S128x512 _ _,
        piece_ok arg6 harg6 arg7 harg7 x3 x4 11 1408 1536 rfl _ _ inb_S2048x2048_S128x512_1408_1536 slices_S2048x512_o1408_0_S128x512 _ _,
        piece_ok arg6 harg6 arg7 harg7 x3 x4 10 1280 1536 rfl _ _ inb_S2048x2048_S128x512_1280_1536 slices_S2048x512_o1280_0_S128x512 _ _,
        piece_ok arg6 harg6 arg7 harg7 x3 x4 9 1152 1536 rfl _ _ inb_S2048x2048_S128x512_1152_1536 slices_S2048x512_o1152_0_S128x512 _ _,
        piece_ok arg6 harg6 arg7 harg7 x3 x4 8 1024 1536 rfl _ _ inb_S2048x2048_S128x512_1024_1536 slices_S2048x512_o1024_0_S128x512 _ _,
        piece_ok arg6 harg6 arg7 harg7 x3 x4 7 896 1536 rfl _ _ inb_S2048x2048_S128x512_896_1536 slices_S2048x512_o896_0_S128x512 _ _,
        piece_ok arg6 harg6 arg7 harg7 x3 x4 6 768 1536 rfl _ _ inb_S2048x2048_S128x512_768_1536 slices_S2048x512_o768_0_S128x512 _ _,
        piece_ok arg6 harg6 arg7 harg7 x3 x4 5 640 1536 rfl _ _ inb_S2048x2048_S128x512_640_1536 slices_S2048x512_o640_0_S128x512 _ _,
        piece_ok arg6 harg6 arg7 harg7 x3 x4 4 512 1536 rfl _ _ inb_S2048x2048_S128x512_512_1536 slices_S2048x512_o512_0_S128x512 _ _,
        piece_ok arg6 harg6 arg7 harg7 x3 x4 3 384 1536 rfl _ _ inb_S2048x2048_S128x512_384_1536 slices_S2048x512_o384_0_S128x512 _ _,
        piece_ok arg6 harg6 arg7 harg7 x3 x4 2 256 1536 rfl _ _ inb_S2048x2048_S128x512_256_1536 slices_S2048x512_o256_0_S128x512 _ _,
        piece_ok arg6 harg6 arg7 harg7 x3 x4 1 128 1536 rfl _ _ inb_S2048x2048_S128x512_128_1536 slices_S2048x512_o128_0_S128x512 _ _,
        piece_ok arg6 harg6 arg7 harg7 x3 x4 0 0 1536 rfl _ _ inb_S2048x2048_S128x512_0_1536 slices_S2048x512_o0_0_S128x512 _ _,
        piece_ok arg6 harg6 arg7 harg7 x3 x4 15 1920 1024 rfl _ _ inb_S2048x2048_S128x512_1920_1024 slices_S2048x512_o1920_0_S128x512 _ _,
        piece_ok arg6 harg6 arg7 harg7 x3 x4 14 1792 1024 rfl _ _ inb_S2048x2048_S128x512_1792_1024 slices_S2048x512_o1792_0_S128x512 _ _,
        piece_ok arg6 harg6 arg7 harg7 x3 x4 13 1664 1024 rfl _ _ inb_S2048x2048_S128x512_1664_1024 slices_S2048x512_o1664_0_S128x512 _ _,
        piece_ok arg6 harg6 arg7 harg7 x3 x4 12 1536 1024 rfl _ _ inb_S2048x2048_S128x512_1536_1024 slices_S2048x512_o1536_0_S128x512 _ _,
        piece_ok arg6 harg6 arg7 harg7 x3 x4 11 1408 1024 rfl _ _ inb_S2048x2048_S128x512_1408_1024 slices_S2048x512_o1408_0_S128x512 _ _,
        piece_ok arg6 harg6 arg7 harg7 x3 x4 10 1280 1024 rfl _ _ inb_S2048x2048_S128x512_1280_1024 slices_S2048x512_o1280_0_S128x512 _ _,
        piece_ok arg6 harg6 arg7 harg7 x3 x4 9 1152 1024 rfl _ _ inb_S2048x2048_S128x512_1152_1024 slices_S2048x512_o1152_0_S128x512 _ _,
        piece_ok arg6 harg6 arg7 harg7 x3 x4 8 1024 1024 rfl _ _ inb_S2048x2048_S128x512_1024_1024 slices_S2048x512_o1024_0_S128x512 _ _,
        piece_ok arg6 harg6 arg7 harg7 x3 x4 7 896 1024 rfl _ _ inb_S2048x2048_S128x512_896_1024 slices_S2048x512_o896_0_S128x512 _ _,
        piece_ok arg6 harg6 arg7 harg7 x3 x4 6 768 1024 rfl _ _ inb_S2048x2048_S128x512_768_1024 slices_S2048x512_o768_0_S128x512 _ _,
        piece_ok arg6 harg6 arg7 harg7 x3 x4 5 640 1024 rfl _ _ inb_S2048x2048_S128x512_640_1024 slices_S2048x512_o640_0_S128x512 _ _,
        piece_ok arg6 harg6 arg7 harg7 x3 x4 4 512 1024 rfl _ _ inb_S2048x2048_S128x512_512_1024 slices_S2048x512_o512_0_S128x512 _ _,
        piece_ok arg6 harg6 arg7 harg7 x3 x4 3 384 1024 rfl _ _ inb_S2048x2048_S128x512_384_1024 slices_S2048x512_o384_0_S128x512 _ _,
        piece_ok arg6 harg6 arg7 harg7 x3 x4 2 256 1024 rfl _ _ inb_S2048x2048_S128x512_256_1024 slices_S2048x512_o256_0_S128x512 _ _,
        piece_ok arg6 harg6 arg7 harg7 x3 x4 1 128 1024 rfl _ _ inb_S2048x2048_S128x512_128_1024 slices_S2048x512_o128_0_S128x512 _ _,
        piece_ok arg6 harg6 arg7 harg7 x3 x4 0 0 1024 rfl _ _ inb_S2048x2048_S128x512_0_1024 slices_S2048x512_o0_0_S128x512 _ _,
        piece_ok arg6 harg6 arg7 harg7 x3 x4 15 1920 512 rfl _ _ inb_S2048x2048_S128x512_1920_512 slices_S2048x512_o1920_0_S128x512 _ _,
        piece_ok arg6 harg6 arg7 harg7 x3 x4 14 1792 512 rfl _ _ inb_S2048x2048_S128x512_1792_512 slices_S2048x512_o1792_0_S128x512 _ _,
        piece_ok arg6 harg6 arg7 harg7 x3 x4 13 1664 512 rfl _ _ inb_S2048x2048_S128x512_1664_512 slices_S2048x512_o1664_0_S128x512 _ _,
        piece_ok arg6 harg6 arg7 harg7 x3 x4 12 1536 512 rfl _ _ inb_S2048x2048_S128x512_1536_512 slices_S2048x512_o1536_0_S128x512 _ _,
        piece_ok arg6 harg6 arg7 harg7 x3 x4 11 1408 512 rfl _ _ inb_S2048x2048_S128x512_1408_512 slices_S2048x512_o1408_0_S128x512 _ _,
        piece_ok arg6 harg6 arg7 harg7 x3 x4 10 1280 512 rfl _ _ inb_S2048x2048_S128x512_1280_512 slices_S2048x512_o1280_0_S128x512 _ _,
        piece_ok arg6 harg6 arg7 harg7 x3 x4 9 1152 512 rfl _ _ inb_S2048x2048_S128x512_1152_512 slices_S2048x512_o1152_0_S128x512 _ _,
        piece_ok arg6 harg6 arg7 harg7 x3 x4 8 1024 512 rfl _ _ inb_S2048x2048_S128x512_1024_512 slices_S2048x512_o1024_0_S128x512 _ _,
        piece_ok arg6 harg6 arg7 harg7 x3 x4 7 896 512 rfl _ _ inb_S2048x2048_S128x512_896_512 slices_S2048x512_o896_0_S128x512 _ _,
        piece_ok arg6 harg6 arg7 harg7 x3 x4 6 768 512 rfl _ _ inb_S2048x2048_S128x512_768_512 slices_S2048x512_o768_0_S128x512 _ _,
        piece_ok arg6 harg6 arg7 harg7 x3 x4 5 640 512 rfl _ _ inb_S2048x2048_S128x512_640_512 slices_S2048x512_o640_0_S128x512 _ _,
        piece_ok arg6 harg6 arg7 harg7 x3 x4 4 512 512 rfl _ _ inb_S2048x2048_S128x512_512_512 slices_S2048x512_o512_0_S128x512 _ _,
        piece_ok arg6 harg6 arg7 harg7 x3 x4 3 384 512 rfl _ _ inb_S2048x2048_S128x512_384_512 slices_S2048x512_o384_0_S128x512 _ _,
        piece_ok arg6 harg6 arg7 harg7 x3 x4 2 256 512 rfl _ _ inb_S2048x2048_S128x512_256_512 slices_S2048x512_o256_0_S128x512 _ _,
        piece_ok arg6 harg6 arg7 harg7 x3 x4 1 128 512 rfl _ _ inb_S2048x2048_S128x512_128_512 slices_S2048x512_o128_0_S128x512 _ _,
        piece_ok arg6 harg6 arg7 harg7 x3 x4 0 0 512 rfl _ _ inb_S2048x2048_S128x512_0_512 slices_S2048x512_o0_0_S128x512 _ _,
        piece_ok arg6 harg6 arg7 harg7 x3 x4 15 1920 0 rfl _ _ inb_S2048x2048_S128x512_1920_0 slices_S2048x512_o1920_0_S128x512 _ _,
        piece_ok arg6 harg6 arg7 harg7 x3 x4 14 1792 0 rfl _ _ inb_S2048x2048_S128x512_1792_0 slices_S2048x512_o1792_0_S128x512 _ _,
        piece_ok arg6 harg6 arg7 harg7 x3 x4 13 1664 0 rfl _ _ inb_S2048x2048_S128x512_1664_0 slices_S2048x512_o1664_0_S128x512 _ _,
        piece_ok arg6 harg6 arg7 harg7 x3 x4 12 1536 0 rfl _ _ inb_S2048x2048_S128x512_1536_0 slices_S2048x512_o1536_0_S128x512 _ _,
        piece_ok arg6 harg6 arg7 harg7 x3 x4 11 1408 0 rfl _ _ inb_S2048x2048_S128x512_1408_0 slices_S2048x512_o1408_0_S128x512 _ _,
        piece_ok arg6 harg6 arg7 harg7 x3 x4 10 1280 0 rfl _ _ inb_S2048x2048_S128x512_1280_0 slices_S2048x512_o1280_0_S128x512 _ _,
        piece_ok arg6 harg6 arg7 harg7 x3 x4 9 1152 0 rfl _ _ inb_S2048x2048_S128x512_1152_0 slices_S2048x512_o1152_0_S128x512 _ _,
        piece_ok arg6 harg6 arg7 harg7 x3 x4 8 1024 0 rfl _ _ inb_S2048x2048_S128x512_1024_0 slices_S2048x512_o1024_0_S128x512 _ _,
        piece_ok arg6 harg6 arg7 harg7 x3 x4 7 896 0 rfl _ _ inb_S2048x2048_S128x512_896_0 slices_S2048x512_o896_0_S128x512 _ _,
        piece_ok arg6 harg6 arg7 harg7 x3 x4 6 768 0 rfl _ _ inb_S2048x2048_S128x512_768_0 slices_S2048x512_o768_0_S128x512 _ _,
        piece_ok arg6 harg6 arg7 harg7 x3 x4 5 640 0 rfl _ _ inb_S2048x2048_S128x512_640_0 slices_S2048x512_o640_0_S128x512 _ _,
        piece_ok arg6 harg6 arg7 harg7 x3 x4 4 512 0 rfl _ _ inb_S2048x2048_S128x512_512_0 slices_S2048x512_o512_0_S128x512 _ _,
        piece_ok arg6 harg6 arg7 harg7 x3 x4 3 384 0 rfl _ _ inb_S2048x2048_S128x512_384_0 slices_S2048x512_o384_0_S128x512 _ _,
        piece_ok arg6 harg6 arg7 harg7 x3 x4 2 256 0 rfl _ _ inb_S2048x2048_S128x512_256_0 slices_S2048x512_o256_0_S128x512 _ _,
        piece_ok arg6 harg6 arg7 harg7 x3 x4 1 128 0 rfl _ _ inb_S2048x2048_S128x512_128_0 slices_S2048x512_o128_0_S128x512 _ _,
        piece_ok arg6 harg6 arg7 harg7 x3 x4 0 0 0 rfl _ _ inb_S2048x2048_S128x512_0_0 slices_S2048x512_o0_0_S128x512 _ _,
        trivial⟩
    · exact View.cover_of_tiledL _ ![128, 512] (by sl_kernel_rfl)
  isplitl [Hb]; · iexact Hb
  isplitl [Hc]; · iexact Hc
  isplitl [Hd HsP HsR]
  · isplitl [Hd]; · iexact Hd
    isplitl [HsP]; · iexact HsP
    iexact HsR
  iexact HO

end Cert.Kernel.Hand

end
-- ==== Proof.Kernel.Frame.lean ====
/- The frame of the kernel: what the body leaves at every grid point, the body's obligation to the pipeline, the launch, and that
   the argument arrays end unchanged with every semaphore at zero. The two buffers that the body fills at a column block's first
   point and reads at the twelve points of the block are carried from point to point with their contents. -/
module

public import proofs.«01_k».proof.Proof.Kernel.Fill
public import proofs.«01_k».proof.Proof.Kernel.Parts
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The window whose place the table decides -/

theorem ok_of_ix (ix : Fin 2 → ℕ) (i : grid0.Coords) (e : ix = cc0_transform_1 i) :
    ∃ h : (∀ a, (ix a + 1) * S1024x512.size a ≤ S12288x512.size a),
      EltTy.bits .bf16 = 32 ∨ (Rect.block (s := S12288x512) S1024x512.size ix h).WholeWords (EltTy.packing .bf16) := by
  subst e; exact ⟨hinb0_1 i, hwx0_1 i⟩

/-- Whatever the table says, the window's block is in the array: it is the row block's, or the first. -/
theorem ok_all : Ok m := by
  intro i
  have e : ∃ i' : grid0.Coords, cc0_transform_2 inb_S136_S1_128 numel1_S1 (tbl m) i = cc0_transform_1 i' := by
    have key : ∀ b : BitVec 1, ∃ i' : grid0.Coords, ![(Scalar.select b (BitVec.ofNat 32 (i 1).val) 0#32).toNat, (0#32).toNat] = cc0_transform_1 i' := by
      intro b
      unfold Scalar.select
      by_cases h : b = 1
      · exact ⟨i, by rw [if_pos h]; rfl⟩
      · exact ⟨fun a => ⟨0, Nat.lt_of_le_of_lt (Nat.zero_le _) (i a).isLt⟩, by rw [if_neg h]; rfl⟩
    exact key _
  obtain ⟨i', e⟩ := e
  exact ok_of_ix _ i' e

/-! ## The pipeline's proof data -/

/-- The first grid point of the column block that point `n` is in. -/
def colPt (n : ℕ) : Fin grid0.N := ⟨n / 12 % 4 * 12, by rw [N_0]; omega⟩

theorem colPt_first (t : Fin grid0.N) (h : t.val % 12 = 0) : colPt t.val = t := by
  have ht : t.val < 48 := Nat.lt_of_lt_of_eq t.isLt N_0
  refine Fin.ext ?_
  show t.val / 12 % 4 * 12 = t.val; omega

theorem colPt_next (n : ℕ) (h : ¬ n % 12 = 0) : colPt (n - 1) = colPt n := by
  refine Fin.ext ?_
  show (n - 1) / 12 % 4 * 12 = n / 12 % 4 * 12
  have : (n - 1) / 12 = n / 12 := by omega
  rw [this]

/-- The weight tile of point `n`'s column block. -/
def wcol (hO : Ok m) (c : Dev nD) (n : ℕ) : Vec F S2048x2048 .bf16 := wfull (iblk m hO c 3 (colPt n)) (iblk m hO c 4 (colPt n))
/-- The page rows of point `n`'s column block. -/
def bcol (hT : PagesOk (tbl m 0)) (c : Dev nD) (n : ℕ) : Vec F S1024x2048 .bf16 := pageRows (grid0.coords (colPt n)) hT (V m c main_arg6)

/-- The two buffers before point `n`: anything at the start, the column block's tile and rows afterwards. -/
def scr (hO : Ok m) (hT : PagesOk (tbl m 0)) (c : Dev nD) (n : ℕ) : sProp 𝕄 :=
  if n = 0 then iprop((∃ d, hbPt0 c scM0_0 d) ∗ (∃ d, hbPt0 c scM0_1 d))
  else iprop(hbPt0 c scM0_0 (wcol m hO c (n - 1)) ∗ hbPt0 c scM0_1 (bcol m hT c (n - 1)))

theorem scr_any (hO : Ok m) (hT : PagesOk (tbl m 0)) (c : Dev nD) (n : ℕ) :
    scr m hO hT c n ⊢ iprop((∃ d, hbPt0 c scM0_0 d) ∗ (∃ d, hbPt0 c scM0_1 d)) := by
  unfold scr
  by_cases h : n = 0
  · rw [if_pos h]
  · rw [if_neg h]; iintro ⟨A, B⟩
    isplitl [A]; · iexists _; iexact A
    iexists _; iexact B

theorem scr_succ (hO : Ok m) (hT : PagesOk (tbl m 0)) (c : Dev nD) (n : ℕ) :
    scr m hO hT c (n + 1) = iprop(hbPt0 c scM0_0 (wcol m hO c n) ∗ hbPt0 c scM0_1 (bcol m hT c n)) := by
  unfold scr; rw [if_neg (Nat.succ_ne_zero n), Nat.add_sub_cancel]

theorem scr_within (hO : Ok m) (hT : PagesOk (tbl m 0)) (c : Dev nD) (n : ℕ) (h : ¬ n % 12 = 0) :
    scr m hO hT c n = iprop(hbPt0 c scM0_0 (wcol m hO c n) ∗ hbPt0 c scM0_1 (bcol m hT c n)) := by
  unfold scr wcol bcol; rw [if_neg (fun e => h (by rw [e])), colPt_next n h]

/-- What a body with transfers of its own works under, the two buffers' contents beside. -/
def inv (hO : Ok m) (hT : PagesOk (tbl m 0)) (c : Dev nD) (n : ℕ) : sProp 𝕄 :=
  iprop(scr m hO hT c n ∗ (∃ r, prngReg c r) ∗ semVal ((c : Thread nD τ), SemLoc.dma 12) 0 ∗ hbPt0 c hbM0_0 (V m c main_arg6) ∗ tbPt0 c tbM0_0 (tbl m 0))

/-- The proof data: the inputs' buffers hold their blocks, and the output's buffer the block that the body computes. -/
def dats (hO : Ok m) (hT : PagesOk (tbl m 0)) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk (F := F) (tbl m 0) (iblk m hO c 0 t) (wcol m hO c t.val) (iblk m hO c 1 t) (iblk m hO c 2 t) (bcol m hT c t.val)
  Φ t := inv m hO hT c t.val
  q _ := fullShare
  owed _ := 0

theorem A_eq (hO : Ok m) (hT : PagesOk (tbl m 0)) (c : Dev nD) (w : Fin (cfgM m hO).W) : (dats m hO hT 0 c).A w = V m c (Pipeline.arrRef spec0 w) := by
  dsimp only [dats]

theorem after0_0 (hO : Ok m) (hT : PagesOk (tbl m 0)) (c : Dev nD) (t : Fin (cfgM m hO).N) : (dats m hO hT 0 c).after 0 t = iblk m hO c 0 t := by dsimp only [dats]; try rfl
theorem after0_1 (hO : Ok m) (hT : PagesOk (tbl m 0)) (c : Dev nD) (t : Fin (cfgM m hO).N) : (dats m hO hT 0 c).after 1 t = iblk m hO c 1 t := by dsimp only [dats]; try rfl
theorem after0_2 (hO : Ok m) (hT : PagesOk (tbl m 0)) (c : Dev nD) (t : Fin (cfgM m hO).N) : (dats m hO hT 0 c).after 2 t = iblk m hO c 2 t := by dsimp only [dats]; try rfl
theorem after0_3 (hO : Ok m) (hT : PagesOk (tbl m 0)) (c : Dev nD) (t : Fin (cfgM m hO).N) : (dats m hO hT 0 c).after 3 t = iblk m hO c 3 t := by dsimp only [dats]; try rfl
theorem after0_4 (hO : Ok m) (hT : PagesOk (tbl m 0)) (c : Dev nD) (t : Fin (cfgM m hO).N) : (dats m hO hT 0 c).after 4 t = iblk m hO c 4 t := by dsimp only [dats]; try rfl
theorem after0_5 (hO : Ok m) (hT : PagesOk (tbl m 0)) (c : Dev nD) (t : Fin (cfgM m hO).N) : (dats m hO hT 0 c).after 5 t
    = outBlk (F := F) (tbl m 0) (iblk m hO c 0 t) (wcol m hO c t.val) (iblk m hO c 1 t) (iblk m hO c 2 t) (bcol m hT c t.val) := by dsimp only [dats]; try rfl

theorem before0_0 (hO : Ok m) (hT : PagesOk (tbl m 0)) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : PagesOk (tbl m 0)) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : PagesOk (tbl m 0)) (c : Dev nD) (t : Fin (cfgM m hO).N) (d) : (dats m hO hT 0 c).before 2 t d = iblk m hO c 2 t :=
  before0_2_of m hO (dats m hO hT 0 c) (A_eq m hO hT c 2) (after0_2 m hO hT c) t d
theorem before0_3 (hO : Ok m) (hT : PagesOk (tbl m 0)) (c : Dev nD) (t : Fin (cfgM m hO).N) (d) : (dats m hO hT 0 c).before 3 t d = iblk m hO c 3 t :=
  before0_3_of m hO (dats m hO hT 0 c) (A_eq m hO hT c 3) (after0_3 m hO hT c) t d
theorem before0_4 (hO : Ok m) (hT : PagesOk (tbl m 0)) (c : Dev nD) (t : Fin (cfgM m hO).N) (d) : (dats m hO hT 0 c).before 4 t d = iblk m hO c 4 t :=
  before0_4_of m hO (dats m hO hT 0 c) (A_eq m hO hT c 4) (after0_4 m hO hT c) t d

/-! ## The body obligation, at a generic point -/

/-- What the body is called with at point `t`, -/
def bodyPre (hO : Ok m) (hT : PagesOk (tbl m 0)) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d))
    ∗ (∃ d, owns (c : Thread nD τ) (ms0_4 m hO t) fullShare ((dats m hO hT 0 c).before 4 t d))
    ∗ (∃ d, owns (c : Thread nD τ) (ms0_5 m hO t) fullShare ((dats m hO hT 0 c).before 5 t d)))

/-- and what it returns. -/
def bodyPost (hO : Ok m) (hT : PagesOk (tbl m 0)) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t)
    ∗ owns (c : Thread nD τ) (ms0_4 m hO t) fullShare ((dats m hO hT 0 c).after 4 t)
    ∗ owns (c : Thread nD τ) (ms0_5 m hO t) fullShare ((dats m hO hT 0 c).after 5 t))

set_option maxHeartbeats 4000000 in
theorem sound_body [∀ e, Nonempty (Elt F e)] (hO : Ok m) (hT : PagesOk (tbl m 0)) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2, before0_3, before0_4]
  rw [after0_0, after0_1, after0_2, after0_3, after0_4, after0_5]
  rw [show (dats m hO hT 0 c).Φ t.castSucc = inv m hO hT c t.val from rfl, show (dats m hO hT 0 c).Φ t.succ = inv m hO hT c (t.val + 1) from rfl]
  unfold Dat.owesAt Pipeline.owesWithin
  rw [show (dats m hO hT 0 c).owed t.castSucc = 0 from rfl, show (dats m hO hT 0 c).owed t.succ = 0 from rfl]
  unfold inv
  rw [scr_succ, cc0_main_eq_skeleton]
  by_cases h0 : t.val % 12 = 0
  · have hc := (hcond0_0 t).mpr h0
    have ew : wcol m hO c t.val = wfull (iblk m hO c 3 t) (iblk m hO c 4 t) := by
      unfold wcol; rw [colPt_first t h0]
    have eb : bcol m hT c t.val = pageRows (grid0.coords t) hT (V m c main_arg6) := by unfold bcol; rw [colPt_first t h0]
    refine BIBase.Entails.trans ?_ (Entails.of_eq (congrArg (fun p => wp frame (wpE (defs₀ (F := F)) Variants.none (c : Thread nD τ) none) Set.univ p _) (main_pos (F := F) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) hbM0_0 (Memref.isWhole_whole _) (ms0_5 m hO t) (hs0_5 m hO t) scM0_0 (Memref.isWhole_whole _) scM0_1 (Memref.isWhole_whole _) cc0_scratch2 hc)).symm)
    rw [wp_bind]
    iintro ⟨⟨HS, Hg, Hsem, Hp, HT⟩, ⟨%W, -, HW⟩, ⟨%d0, H0⟩, ⟨%d1, H1⟩, ⟨%d2, H2⟩, ⟨%d3, H3⟩, ⟨%d4, H4⟩, ⟨%d5, H5⟩⟩
    ihave HS' := (scr_any m hO hT c t.val) $$ HS
    icases HS' with ⟨HS0, HS1⟩
    iapply (fill_run c (grid0.coords t) hT (V m c main_arg6) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 3 t) (iblk m hO c 4 t) _ hc W _)
    isplitl [HT]; · iexact HT
    isplitl [H3]; · iexact H3
    isplitl [H4]; · iexact H4
    isplitl [HS0]; · iexact HS0
    isplitl [HS1]; · iexact HS1
    isplitl [Hsem]; · iexact Hsem
    isplitl [Hp]; · iexact Hp
    isplitl [HW]; · iexact HW
    iintro ⟨HT, H3, H4, HS0, HS1, Hsem, Hp, ⟨%W', HW⟩⟩
    iapply (tail_run c (grid0.coords t) (T := tbl m 0) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 0 t) (wcol m hO c t.val) (iblk m hO c 1 t) (iblk m hO c 2 t) (bcol m hT c t.val) _)
    rw [← ew, ← eb]
    isplitl [HT]; · iexact HT
    isplitl [H0]; · iexact H0
    isplitl [H1]; · iexact H1
    isplitl [H2]; · iexact H2
    isplitl [HS0]; · iexact HS0
    isplitl [HS1]; · iexact HS1
    isplitl [H5]; · iexists _; iexact H5
    iintro ⟨HT, H0, H1, H2, HS0, HS1, H5⟩
    isplitl [HS0 HS1 Hg Hsem Hp HT]
    · isplitl [HS0 HS1]
      · isplitl [HS0]; · iexact HS0
        iexact HS1
      isplitl [Hg]; · iexact Hg
      isplitl [Hsem]; · iexact Hsem
      isplitl [Hp]; · iexact Hp
      iexact HT
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · rw [scr_within m hO hT c t.val h0]
    refine BIBase.Entails.trans ?_ (Entails.of_eq (congrArg (fun p => wp frame (wpE (defs₀ (F := F)) Variants.none (c : Thread nD τ) none) Set.univ p _) (main_neg (F := F) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) hbM0_0 (Memref.isWhole_whole _) (ms0_5 m hO t) (hs0_5 m hO t) scM0_0 (Memref.isWhole_whole _) scM0_1 (Memref.isWhole_whole _) cc0_scratch2 (fun h => h0 ((hcond0_0 t).mp h)))).symm)
    iintro ⟨⟨⟨HS0, HS1⟩, Hg, Hsem, Hp, HT⟩, ⟨%W, -, HW⟩, ⟨%d0, H0⟩, ⟨%d1, H1⟩, ⟨%d2, H2⟩, ⟨%d3, H3⟩, ⟨%d4, H4⟩, ⟨%d5, H5⟩⟩
    iapply (tail_run c (grid0.coords t) (T := tbl m 0) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 0 t) (wcol m hO c t.val) (iblk m hO c 1 t) (iblk m hO c 2 t) (bcol m hT c t.val) _)
    isplitl [HT]; · iexact HT
    isplitl [H0]; · iexact H0
    isplitl [H1]; · iexact H1
    isplitl [H2]; · iexact H2
    isplitl [HS0]; · iexact HS0
    isplitl [HS1]; · iexact HS1
    isplitl [H5]; · iexists _; iexact H5
    iintro ⟨HT, H0, H1, H2, HS0, HS1, H5⟩
    isplitl [HS0 HS1 Hg Hsem Hp HT]
    · isplitl [HS0 HS1]
      · isplitl [HS0]; · iexact HS0
        iexact HS1
      isplitl [Hg]; · iexact Hg
      isplitl [Hsem]; · iexact Hsem
      isplitl [Hp]; · iexact Hp
      iexact HT
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is written back at every point, so that its buffer is handed back at what the body leaves, whether or not the
    configuration counts the point as one that may store nothing. -/
theorem leaves_out (hO : Ok m) (hT : PagesOk (tbl m 0)) (c : Dev nD) (t : Fin (cfgM m hO).N) (b : Bool) :
    owns (c : Thread nD τ) (ms0_5 m hO t) fullShare ((dats m hO hT 0 c).after 5 t)
      ⊢ (match b with
        | true => (match ((cfgM m hO).win 5).flush t with
          | false => iprop(∃ d, owns (c : Thread nD τ) (((cfgM m hO).win 5).stage ((cfgM m hO).slots t 5)) fullShare ((dats m hO hT 0 c).before 5 t d))
          | true => owns (c : Thread nD τ) (((cfgM m hO).win 5).stage ((cfgM m hO).slots t 5)) fullShare ((dats m hO hT 0 c).after 5 t))
        | false => owns (c : Thread nD τ) (((cfgM m hO).win 5).stage ((cfgM m hO).slots t 5)) fullShare ((dats m hO hT 0 c).after 5 t) : sProp 𝕄) := by
  rw [flush0_5]
  cases b <;> exact .rfl

theorem body_obligation [∀ e, Nonempty (Elt F e)] (hO : Ok m) (hT : PagesOk (tbl m 0)) (c : Dev nD) :
    BodyObligation (dats (F := F) m hO hT 0 c) (defs₀ (F := F)) Variants.none () Set.univ := fun t => by
  rw [bigSep_W0, bigSep_W0, defs₀_row m hO]
  refine triple_restated (sound_body m hO hT c t) rfl .rfl fun _ => ?_
  exact sep_mono .rfl (sep_mono .rfl (sep_mono .rfl (sep_mono .rfl (sep_mono .rfl (sep_mono .rfl (sep_mono .rfl (leaves_out m hO hT c t _)))))))

/-! ## The run and the frame -/

theorem inv_in (hO : Ok m) (hT : PagesOk (tbl m 0)) (c : Dev nD) :
    iprop(Pipeline.ΦD osem0 spec0 H0 (V m) c ∗ Pipeline.ΦT pre0 (tbl m) c) ⊢ (dats m hO hT 0 c).Φ 0 := by
  rw [show (dats m hO hT 0 c).Φ 0 = inv m hO hT c 0 from rfl, PhiD0_eq, PhiT0_eq]
  unfold inv scr
  rw [if_pos rfl]
  simp only [scM0_0, scM0_1, owns_whole]
  iintro ⟨⟨⟨A, B⟩, C, D, E⟩, G⟩
  isplitl [A B]
  · isplitl [A]; · iexact A
    iexact B
  isplitl [C]; · iexact C
  isplitl [D]; · iexact D
  isplitl [E]; · iexact E
  iexact G

theorem inv_out (hO : Ok m) (hT : PagesOk (tbl m 0)) (c : Dev nD) (n : ℕ) :
    inv m hO hT c n ⊢ Pipeline.ΦD osem0 spec0 H0 (V m) c := by
  rw [PhiD0_eq]
  unfold inv
  iintro ⟨S, C, D, E, -⟩
  ihave S' := (scr_any m hO hT c n) $$ S
  icases S' with ⟨A, B⟩
  simp only [scM0_0, scM0_1, owns_whole]
  isplitl [A B]
  · isplitl [A]; · iexact A
    iexact B
  isplitl [C]; · iexact C
  isplitl [D]; · iexact D
  iexact E

set_option backward.isDefEq.respectTransparency.types false in
/-- The launch: every weakly fair execution ends, with the arrays as the proof data say and every semaphore at zero. -/
theorem run_main_quiescent [∀ e, Nonempty (Elt F e)] (hO : Ok m) (hT : PagesOk (tbl m 0)) :
    θ_run defs (onTc (τ := τ) (main (F := F))) (s₀ m ρ) (fun r => (Pipeline.FramePost (Pipeline.pin pcfgs fun _ => adm m hO) (dats m hO hT) 0 (V m)) r ∧ r.2.sem = fun _ => 0) :=
  Pipeline.θ_run_frameP_dma (Q' := _) pcfgs (fun _ => adm m hO) (dats m hO hT) (0 : Fin 1) launch0 osem0 defs₀ Variants.none ownSemFacts0 H0 H0_sub m ρ main
    (hbody := fun c => (body_obligation m hO hT c).loose) (hshare := fun c => (dats m hO hT 0 c).share_full fun _ => rfl)
    (howed := fun _ _ => rfl) (V := V m) (hmain := hmain m Variants.none) (hA := A_eq m hO hT) (hpf := V_pre m) (hin := inv_in m hO hT)
    (hout := fun c => inv_out m hO hT c _)

/-- The argument arrays end unchanged, and every semaphore counter at zero. -/
theorem frame [∀ e, Nonempty (Elt F e)] (hO : Ok m) (hT : PagesOk (tbl m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans rfl,
      ((h.1 c).1 0).trans (((dats m hO hT 0 c).arrAt_in 0 rfl _).trans (A_eq m hO hT c 0)),
      ((h.1 c).1 1).trans (((dats m hO hT 0 c).arrAt_in 1 rfl _).trans (A_eq m hO hT c 1)),
      ((h.1 c).1 2).trans (((dats m hO hT 0 c).arrAt_in 2 rfl _).trans (A_eq m hO hT c 2)),
      ((h.1 c).1 3).trans (((dats m hO hT 0 c).arrAt_in 3 rfl _).trans (A_eq m hO hT c 3)),
      ((h.1 c).1 4).trans (((dats m hO hT 0 c).arrAt_in 4 rfl _).trans (A_eq m hO hT c 4)),
      ((h.1 c).2 main_arg6 (by decide : main_arg6 ∈ Pipeline.restRefs sig spec0)).trans rfl⟩, h.2⟩)
    (run_main_quiescent m ρ hO hT)

end Cert.Kernel.Hand

end
-- ==== Proof.KernelIdeal.Runs.lean ====
/- What the runs of the kernel share: the windows' schedules, what the arrays hold when the pipelined region is entered,
   the prefetched table, the blocks of the windows, the kernel's own semaphore and the adapter pool that stays in HBM,
   and the invariant a body with transfers of its own works under. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Batch
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents
/-- Window 3 (operand 4 (%arg4)) is fetched at the points ≡ 0 (mod 12), at any contents of the tables (its index map reads none). -/
theorem fetch0_3 (a : (pcfg0 (F := F)).Adm) : ∀ t : Fin (cfg0 a).N, ((cfg0 a).win 3).fetch t = true ↔ t.val % 12 = 0 :=
  (fun t => Pipeline.Window.fetchOf_reads cc0_transform_3 reads0_3 hreads0_3 0 (by decide) (by decide) (Pipeline.Window.sep_of_coord cc0_transform_3 0 1 (fun _ => rfl) (by decide)) (P := 12) (by decide) t : ∀ t : Fin grid0.N, Pipeline.Window.fetchOf grid0 false cc0_transform_3 t = true ↔ t.val % 12 = 0)
/-- Window 4 (operand 5 (%arg5)) is fetched at the points ≡ 0 (mod 12), at any contents of the tables (its index map reads none). -/
theorem fetch0_4 (a : (pcfg0 (F := F)).Adm) : ∀ t : Fin (cfg0 a).N, ((cfg0 a).win 4).fetch t = true ↔ t.val % 12 = 0 :=
  (fun t => Pipeline.Window.fetchOf_reads cc0_transform_4 reads0_4 hreads0_4 0 (by decide) (by decide) (Pipeline.Window.sep_of_coord cc0_transform_4 0 1 (fun _ => rfl) (by decide)) (P := 12) (by decide) t : ∀ t : Fin grid0.N, Pipeline.Window.fetchOf grid0 false cc0_transform_4 t = true ↔ t.val % 12 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_6 reads0_5 hreads0_5 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_main (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole main_arg6) (Memref.isWhole_whole _) (spec0_5.stage ((cfg0 a).slots t 5)) (hstage0_5 (((cfg0 a).slots t 5).cast nbuf0_5)) (Memref.whole cc0_scratch0) (Memref.isWhole_whole _) (Memref.whole cc0_scratch1) (Memref.isWhole_whole _) cc0_scratch2

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg6 (c : Dev nD) : V m c main_arg6 = m ((c : Thread nD τ).loc main_arg6) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin grid0.N, cond0_0 (grid0.coords t) ↔ t.val % 12 = 0 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x2048 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S16x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x2048 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x2048 .bf16 := Memref.whole cc0_scratch0
abbrev scM0_1 : Memref sig .tc .vmem S1024x2048 .bf16 := Memref.whole cc0_scratch1

/-- The adapter pool, left in HBM, as the body is handed it. -/
abbrev hbM0_0 : Memref sig .tc .hbm S1000x8192 .bf16 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 12] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0) := by
  rw [Pipeline.ownSems0_eq_of_list c osem0 [0] (by decide) (by decide)]; rfl
/-- The HBM operands the body moves, as references: unscoped, no window's array (`Pipeline.restRefs`). -/
def H0 : Finset (Ref sig .tc) := {main_arg6}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg6)) := by
  rw [BI.bigSep_eq_bigSepL_of_eq [main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 12) 0) ∗ iprop(hbPt0 c hbM0_0 (V m c main_arg6))) := by
  rw [Pipeline.ΦD_eq, scopedRest0_eq, ownSems00_eq, hbmPts0_eq]; simp only [scM0_0, scM0_1, owns_whole]; try rfl

end Cert.KernelIdeal.Hand

end
-- ==== Proof.KernelIdeal.Dma.lean ====
/- The kernel's two loops of transfers. The first starts 128 copies, all on one semaphore: copy `k` takes the eight rows
   of the adapter pool that page word `k` names (2048 columns of them, those of the current column block) into rows
   `8k … 8k+7` of the VMEM buffer. The second loop waits 128 times. The words may repeat, so every copy reads the pool
   under a read share of its own. After the loops the buffer holds `pageRows`. -/
module

public import proofs.«01_k».proof.Proof.KernelIdeal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The words and the offsets -/

theorem trips1_eq : k0_t1_loop.trips = 128 := by decide
theorem trips2_eq : k0_t2_loop.trips = 128 := by decide

/-- The table's index `k`. -/
abbrev wix (k : Fin 128) : S136.Idx := fun a => match a with | ⟨0, _⟩ => ⟨k.val, Nat.lt_of_lt_of_le k.isLt (show 128 ≤ 136 by decide)⟩

/-- The page words are pages of the pool: what the kernel needs of its table. -/
def PagesOk (T : S136.Idx → BitVec 32) : Prop := ∀ k : Fin 128, (T (wix k)).toNat < 125

theorem off1_eq : ∀ k : Fin k0_t1_loop.trips, k0_off1 k = ![k.val] := by decide +kernel
theorem off2_eq : ∀ k : Fin k0_t1_loop.trips, k0_off2 k = ![8 * k.val, 0] := by decide +kernel
theorem off4_eq : ∀ k : Fin k0_t2_loop.trips, k0_off4 k = ![k.val] := by decide +kernel

theorem col_lt (i : grid0.Coords) : (i 0).val < 4 := (i 0).isLt

theorem off3_eq (i : grid0.Coords) (w : BitVec 32) (hw : w.toNat < 125) : k0_off3 i w = ![w.toNat * 8, (i 0).val * 2048] := by
  have hi := col_lt i
  have e1 : (Scalar.muli w 8#32).toNat = w.toNat * 8 := by
    show (w * 8#32).toNat = _
    rw [BitVec.toNat_mul]; show w.toNat * 8 % 2 ^ 32 = _
    omega
  have e2 : (Scalar.muli (BitVec.ofNat 32 (i 0).val) 2048#32).toNat = (i 0).val * 2048 := by
    show (BitVec.ofNat 32 (i 0).val * 2048#32).toNat = _
    rw [BitVec.toNat_mul, BitVec.toNat_ofNat]; show (i 0).val % 2 ^ 32 * 2048 % 2 ^ 32 = _
    omega
  funext a; fin_cases a
  · exact e1
  · exact e2

theorem off3_inb (i : grid0.Coords) (w : BitVec 32) (hw : w.toNat < 125) : ∀ a, k0_off3 i w a + S8x2048.size a ≤ S1000x8192.size a := by
  have hi := col_lt i
  rw [off3_eq i w hw]; intro a; fin_cases a
  · show w.toNat * 8 + 8 ≤ 1000; omega
  · show (i 0).val * 2048 + 2048 ≤ 8192; omega

theorem chk1_of (i : grid0.Coords) (w : BitVec 32) (hw : w.toNat < 125) : k0_chk1 i w := by
  have hi := col_lt i
  refine ⟨fun _ => ?_, fun _ => off3_inb i w hw, fun _ hinb => ?_⟩
  · have := off3_eq i w hw
    have h0 : (k0_mult2 w).toNat = w.toNat * 8 := congrFun this 0
    rw [h0]; exact ⟨w.toNat, Nat.mul_comm _ _⟩
  · have h0 : k0_off3 i w 0 = w.toNat * 8 := congrFun (off3_eq i w hw) 0
    refine Affine.words_of_packed (Affine.packed_dvd (of_decide_eq_true rfl) ?_ (by decide))
    show 2 ∣ k0_off3 i w 0
    rw [h0]; omega
theorem chk2_of (i : grid0.Coords) (w : BitVec 32) (hw : w.toNat < 125) : k0_chk2 i w := chk1_of i w hw

theorem off1_inb (k : Fin k0_t1_loop.trips) : ∀ a, k0_off1 k a + S1.size a ≤ S136.size a := by
  have hk : k.val < 128 := trips1_eq ▸ k.isLt
  rw [off1_eq k]; intro a; fin_cases a
  show k.val + 1 ≤ 136; omega
theorem off2_inb (k : Fin k0_t1_loop.trips) : ∀ a, k0_off2 k a + S8x2048.size a ≤ S1024x2048.size a := by
  have hk : k.val < 128 := trips1_eq ▸ k.isLt
  rw [off2_eq k]; intro a; fin_cases a
  · show 8 * k.val + 8 ≤ 1024; omega
  · show 0 + 2048 ≤ 2048; omega

/-- Page word `k`, as trip `k`'s load reads it off the table. -/
abbrev wd (T : S136.Idx → BitVec 32) (k : Fin k0_t1_loop.trips) : BitVec 32 :=
  tbM0_0.view.readAt (Elt F) (Rect.unit (s := S136) (k0_off1 k) S1.size (off1_inb k)).toLoadRect T (Shape.Idx.first (s := S1) (numel1_S1.symm ▸ Nat.one_pos))

theorem wd_eq (T : S136.Idx → BitVec 32) (k : Fin k0_t1_loop.trips) : wd (F := F) T k = T (wix (k.cast trips1_eq)) := by
  show T _ = T _
  refine congrArg T (funext fun a => Fin.ext ?_)
  fin_cases a
  have h : k0_off1 k 0 = k.val := congrFun (off1_eq k) 0
  show k0_off1 k 0 + 1 * 0 = k.val
  omega

theorem wd_lt {T : S136.Idx → BitVec 32} (hT : PagesOk T) (k : Fin k0_t1_loop.trips) : (wd (F := F) T k).toNat < 125 := by
  rw [wd_eq]; exact hT _

/-! ## The two ends of copy `k` -/

/-- Rows `8k … 8k+7` of the VMEM buffer, as the body spells them. -/
def dstM (k : Fin k0_t1_loop.trips) : Memref sig .tc .vmem S8x2048 .bf16 :=
  scM0_1.slice (Rect.unit (s := S1024x2048) (k0_off2 k) S8x2048.size (off2_inb k)) (fun _ => rfl)
/-- The rows of the pool that word `w` names, at the column block of `i`. -/
def srcM (i : grid0.Coords) (w : BitVec 32) (h : ∀ a, k0_off3 i w a + S8x2048.size a ≤ S1000x8192.size a) : Memref sig .tc .hbm S8x2048 .bf16 :=
  hbM0_0.slice (Rect.unit (s := S1000x8192) (k0_off3 i w) S8x2048.size h) (fun _ => rfl)

/-- One copy's credit on the semaphore. -/
abbrev NN : ℕ := 1024

section Deliveries

variable (c : Dev nD) (i : grid0.Coords) {T : S136.Idx → BitVec 32} (hT : PagesOk T)
  (fv : HbBuf0 (F := F) c scM0_1) (fs : HbBuf0 (F := F) c hbM0_0)

abbrev src (k : Fin k0_t1_loop.trips) : Memref sig .tc .hbm S8x2048 .bf16 := srcM i (wd (F := F) T k) (off3_inb i _ (wd_lt hT k))
abbrev fvAt (k : Fin k0_t1_loop.trips) : Buf (Elt F) ((dstM k).view.loc (c : Thread nD τ)) := fv
abbrev fsAt (k : Fin k0_t1_loop.trips) : Buf (Elt F) ((src (F := F) i hT k).view.loc (c : Thread nD τ)) := fs

/-- The rows of copy `k` once it has landed. -/
abbrev landed (k : Fin k0_t1_loop.trips) : Buf (Elt F) ((dstM k).view.loc (c : Thread nD τ)) :=
  (dstM k).view.writes (Elt F) (fvAt c fv k) [⟨Rect.whole S8x2048, ReadAs.same.apply ((src (F := F) i hT k).view.read (Elt F) (fsAt c i hT fs k))⟩]

/-- The rows copy `k` fills, by their own elements, at `g`. -/
abbrev dstPt (k : Fin k0_t1_loop.trips) (g : Buf (Elt F) ((dstM k).view.loc (c : Thread nD τ))) : sProp 𝕄 :=
  (dstM k).view.loc (c : Thread nD τ) ↦[(dstM k).view.set]{fullShare} g
/-- The rows copy `k` reads, under its own read share. -/
abbrev srcPt (k : Fin k0_t1_loop.trips) : sProp 𝕄 :=
  (src (F := F) i hT k).view.loc (c : Thread nD τ) ↦[(src (F := F) i hT k).view.set]{Transfers.shareTokN fullShare k.val} fsAt c i hT fs k

/-- What copy `k` delivers: its rows landed, and the rows it read back. -/
abbrev D (k : Fin k0_t1_loop.trips) : sProp 𝕄 := iprop(dstPt c k (landed c i hT fv fs k) ∗ srcPt c i hT fs k)

instance D_storable (k : Fin k0_t1_loop.trips) : BI.Storable (upEmb : UEmb _ 𝕄) (D c i hT fv fs k) := by
  unfold D; infer_instance

/-- All copies on the kernel's semaphore, `j` started and `u` units of credit consumed. -/
abbrev batch (j u : ℕ) : sProp 𝕄 :=
  Transfers.Batch (countersEmb (U := Pipeline.UD sig nD τ)) (c : Thread nD τ) (.dma cc0_scratch2.sem) () NN (D c i hT fv fs) j u

end Deliveries

end Cert.KernelIdeal.Hand

end
-- ==== Proof.KernelIdeal.Parts.lean ====
/- The kernel's body in two parts: what is done only at the first row block of a column block (`fillP`: the copies, and the
   dequantised weight tile), and what is done at every point (`tailP`: the products and the store). -/
module

public import proofs.«01_k».proof.Proof.KernelIdeal.Dma

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option cleanup.letToHave false in
/-- What the body does at a point whose row block is the first: it starts the copies, writes the dequantised weight tile
    block by block, and waits for the copies. -/
noncomputable def fillP (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (arg0 : BitVec 32) (k0_h1 : k0_cond1 i = 1#1) :
    Prog (TpuEff nD τ sig (Elt F) Λ₀ .tc) PUnit := do
  let ⟨v27, v45⟩ : Σ' (v27 : FVec F S2048x512 .bf16), FVec F S128x512 .bf16 ← k0_part1 i arg2 harg2 arg3 harg3 arg4 harg4 arg5 harg5 arg6 harg6 arg7 harg7 arg8 harg8 arg9 harg9 arg10 harg10 arg11 harg11 arg12 arg0 k0_h1
  let v80 : FVec F S128x512 .bf16 ← k0_part2 i arg2 harg2 arg3 harg3 arg4 harg4 arg5 harg5 arg6 harg6 arg7 harg7 arg8 harg8 arg9 harg9 arg10 harg10 arg11 harg11 arg12 v27 v45
  let v115 : FVec F S128x512 .bf16 ← k0_part3 i arg2 harg2 arg3 harg3 arg4 harg4 arg5 harg5 arg6 harg6 arg7 harg7 arg8 harg8 arg9 harg9 arg10 harg10 arg11 harg11 arg12 v27 v80
  let ⟨v153, v154⟩ : Σ' (v153 : FVec F S2048x512 .bf16), FVec F S128x512 .bf16 ← k0_part4 i arg2 harg2 arg3 harg3 arg4 harg4 arg5 harg5 arg6 harg6 arg7 harg7 arg8 harg8 arg9 harg9 arg10 harg10 arg11 harg11 arg12 v27 v115
  let v189 : FVec F S128x512 .bf16 ← k0_part5 i arg2 harg2 arg3 harg3 arg4 harg4 arg5 harg5 arg6 harg6 arg7 harg7 arg8 harg8 arg9 harg9 arg10 harg10 arg11 harg11 arg12 v153 v154
  let v224 : FVec F S128x512 .bf16 ← k0_part6 i arg2 harg2 arg3 harg3 arg4 harg4 arg5 harg5 arg6 harg6 arg7 harg7 arg8 harg8 arg9 harg9 arg10 harg10 arg11 harg11 arg12 v153 v189
  let v259 : FVec F S128x512 .bf16 ← k0_part7 i arg2 harg2 arg3 harg3 arg4 harg4 arg5 harg5 arg6 harg6 arg7 harg7 arg8 harg8 arg9 harg9 arg10 harg10 arg11 harg11 arg12 v153 v224
  let ⟨v279, v297⟩ : Σ' (v279 : FVec F S2048x512 .bf16), FVec F S128x512 .bf16 ← k0_part8 i arg2 harg2 arg3 harg3 arg4 harg4 arg5 harg5 arg6 harg6 arg7 harg7 arg8 harg8 arg9 harg9 arg10 harg10 arg11 harg11 arg12 v259
  let v332 : FVec F S128x512 .bf16 ← k0_part9 i arg2 harg2 arg3 harg3 arg4 harg4 arg5 harg5 arg6 harg6 arg7 harg7 arg8 harg8 arg9 harg9 arg10 harg10 arg11 harg11 arg12 v279 v297
  let v367 : FVec F S128x512 .bf16 ← k0_part10 i arg2 harg2 arg3 harg3 arg4 harg4 arg5 harg5 arg6 harg6 arg7 harg7 arg8 harg8 arg9 harg9 arg10 harg10 arg11 harg11 arg12 v279 v332
  let v404 : IVec S2048x512 32 ← k0_part11 i arg2 harg2 arg3 harg3 arg4 harg4 arg5 harg5 arg6 harg6 arg7 harg7 arg8 harg8 arg9 harg9 arg10 harg10 arg11 harg11 arg12 v279 v367
  let ⟨v405, v440⟩ : Σ' (v405 : FVec F S2048x512 .bf16), FVec F S128x512 .bf16 ← k0_part12 i arg2 harg2 arg3 harg3 arg4 harg4 arg5 harg5 arg6 harg6 arg7 harg7 arg8 harg8 arg9 harg9 arg10 harg10 arg11 harg11 arg12 v404
  let v475 : FVec F S128x512 .bf16 ← k0_part13 i arg2 harg2 arg3 harg3 arg4 harg4 arg5 harg5 arg6 harg6 arg7 harg7 arg8 harg8 arg9 harg9 arg10 harg10 arg11 harg11 arg12 v405 v440
  let v510 : FVec F S128x512 .bf16 ← k0_part14 i arg2 harg2 arg3 harg3 arg4 harg4 arg5 harg5 arg6 harg6 arg7 harg7 arg8 harg8 arg9 harg9 arg10 harg10 arg11 harg11 arg12 v405 v475
  Prog.lift (.store arg10 (Rect.unit (s := S2048x2048) ![1792, 1536] S128x512.size inb_S2048x2048_S128x512_1792_1536) v510 Finset.univ (View.stores_vmem h_S128x512 (harg10.storeExact_slice rfl _ packedbf16_S2048x2048_S128x512_1792_1536) (fun _ => rfl)) (.inl rfl))
  let v512 : Vec F S1x512 .bf16 ← Prog.lift (.load arg7 (Rect.unit (s := S16x2048) ![15, 1536] S1x512.size inb_S16x2048_S1x512_15_1536).toLoadRect (View.loadsAt_vmem h_S1x512))
  let v515 : Vec F S128x512 .bf16 ← Prog.lift (.load arg10 (Rect.unit (s := S2048x2048) ![1920, 1536] S128x512.size inb_S2048x2048_S128x512_1920_1536).toLoadRect (View.loadsAt_vmem h_S128x512))
  Prog.lift (.store arg10 (Rect.unit (s := S2048x2048) ![1920, 1536] S128x512.size inb_S2048x2048_S128x512_1920_1536) (k0_pay1 v405 v512) Finset.univ (View.stores_vmem h_S128x512 (harg10.storeExact_slice rfl _ packedbf16_S2048x2048_S128x512_1920_1536) (fun _ => rfl)) (.inl rfl))
  Scf.Loop.for k0_t2_loop (k0_t2_ok i k0_h1) ⟨⟩ (k0_t2_body i arg2 harg2 arg3 harg3 arg4 harg4 arg5 harg5 arg6 harg6 arg7 harg7 arg8 harg8 arg9 harg9 arg10 harg10 arg11 harg11 arg12 k0_h1)
  pure ⟨⟩

set_option cleanup.letToHave false in
/-- What the body does at every point: the products, by the number of live adapters, and the store of the block. -/
noncomputable def tailP (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) :
    Prog (TpuEff nD τ sig (Elt F) Λ₀ .tc) PUnit := do
  let v3 : Elt F .i32 ← smemLoad arg2 (Rect.unit (s := S136) ![128] S1.size inb_S136_S1_128) numel1_S1 rfl
  if k0_h2 : k0_cond2 v3 = 1#1 then do
    let v11 : Vec F S1024x2048 .bf16 ← Prog.lift (.load arg3 (Rect.unit (s := S1024x2048) ![0, 0] S1024x2048.size inb_S1024x2048_S1024x2048_0_0).toLoadRect (View.loadsAt_vmem h_S1024x2048))
    let v12 : Vec F S2048x2048 .bf16 ← Prog.lift (.load arg10 (Rect.unit (s := S2048x2048) ![0, 0] S2048x2048.size inb_S2048x2048_S2048x2048_0_0).toLoadRect (View.loadsAt_vmem h_S2048x2048))
    let v14 : Vec F S1024x512 .bf16 ← Prog.lift (.load arg4 (Rect.unit (s := S1024x512) ![0, 0] S1024x512.size inb_S1024x512_S1024x512_0_0).toLoadRect (View.loadsAt_vmem h_S1024x512))
    let v15 : Vec F S512x2048 .bf16 ← Prog.lift (.load arg11 (Rect.unit (s := S1024x2048) ![0, 0] S512x2048.size inb_S1024x2048_S512x2048_0_0).toLoadRect (View.loadsAt_vmem h_S512x2048))
    let v19 : Vec F S1024x2048 .bf16 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) (k0_pay2 v11 v12 v14 v15) Finset.univ (View.stores_vmem h_S1024x2048 (harg9.storeExact_slice rfl _ packedbf16_S1024x2048_S1024x2048_0_0) (fun _ => rfl)) (.inl rfl))
    pure ⟨⟩
  else do
    pure ⟨⟩
  let v7 : Elt F .i32 ← smemLoad arg2 (Rect.unit (s := S136) ![128] S1.size inb_S136_S1_128) numel1_S1 rfl
  if k0_h3 : k0_cond3 v7 = 1#1 then do
    Scf.Loop.for k0_t3_loop k0_t3_ok ⟨⟩ (k0_t3_body i arg2 harg2 arg3 harg3 arg4 harg4 arg5 harg5 arg6 harg6 arg7 harg7 arg8 harg8 arg9 harg9 arg10 harg10 arg11 harg11 arg12)
    pure ⟨⟩
  else do
    pure ⟨⟩
  pure ⟨⟩

/-- At a column block's first point the body is the two parts in turn; -/
theorem main_pos (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (k0_h1 : k0_cond1 i = 1#1) :
    cc0_main_skel (F := F) i arg2 harg2 arg3 harg3 arg4 harg4 arg5 harg5 arg6 harg6 arg7 harg7 arg8 harg8 arg9 harg9 arg10 harg10 arg11 harg11 arg12 = (fillP i arg2 harg2 arg3 harg3 arg4 harg4 arg5 harg5 arg6 harg6 arg7 harg7 arg8 harg8 arg9 harg9 arg10 harg10 arg11 harg11 arg12 (BitVec.ofNat 32 (i 0).val) k0_h1 >>= fun _ => tailP i arg2 harg2 arg3 harg3 arg4 harg4 arg5 harg5 arg6 harg6 arg7 harg7 arg8 harg8 arg9 harg9 arg10 harg10 arg11 harg11 arg12) := by
  unfold cc0_main_skel
  rw [dif_pos k0_h1]
  unfold fillP
  simp only [bind_assoc, pure_bind]
  rfl

/-- at the others it is the second. -/
theorem main_neg (i : grid0.Coords) (arg2 : Memref sig .tc .smem S136 .i32) (harg2 : arg2.IsWhole) (arg3 : Memref sig .tc .vmem S1024x2048 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S256x2048 .i32) (harg6 : arg6.IsWhole) (arg7 : Memref sig .tc .vmem S16x2048 .bf16) (harg7 : arg7.IsWhole) (arg8 : Memref sig .tc .hbm S1000x8192 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1024x2048 .bf16) (harg11 : arg11.IsWhole) (arg12 : DmaSems sig S_) (k0_h1 : ¬ k0_cond1 i = 1#1) :
    cc0_main_skel (F := F) i arg2 harg2 arg3 harg3 arg4 harg4 arg5 harg5 arg6 harg6 arg7 harg7 arg8 harg8 arg9 harg9 arg10 harg10 arg11 harg11 arg12 = tailP i arg2 harg2 arg3 harg3 arg4 harg4 arg5 harg5 arg6 harg6 arg7 harg7 arg8 harg8 arg9 harg9 arg10 harg10 arg11 harg11 arg12 := by
  unfold cc0_main_skel
  rw [dif_neg k0_h1]
  rfl

end Cert.KernelIdeal.Hand

end
-- ==== Proof.KernelIdeal.Tail.lean ====
/- The part of the body that runs at every point. It stores the output block: with at most two live adapters in one piece
   (`outLow`), with more in four column chunks, by a loop (`outHigh`). -/
module

public import proofs.«01_k».proof.Proof.KernelIdeal.Parts
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks -/

/-- The word that says how many adapters are live. -/
abbrev liveWord (T : S136.Idx → BitVec 32) : BitVec 32 := T (fun a => match a with | ⟨0, _⟩ => ⟨128, show 128 < 136 by decide⟩)

/-- A rectangle of an array, as a vector. -/
abbrev sub {s : Shape} {α : Type} (X : s.Idx → α) (r : Rect s) : r.shape.Idx → α := fun j => X (r.emb j)

/-- A load reads the rectangle of what the memref reads. -/
theorem readAt_sub {sp : Space} {s : Shape} {e : EltTy} (M : Memref sig .tc sp s e) (r : Rect s) (f : M.view.ty.Contents (Elt F)) :
    M.view.readAt (Elt F) r.toLoadRect f = sub (M.view.read (Elt F) f) r := rfl

/-- The rectangle of the whole array is the array. -/
theorem sub_full {α : Type} {s : Shape} (X : s.Idx → α) {off : Fin s.rank → ℕ} (inb : ∀ a, off a + s.size a ≤ s.size a) :
    sub X (Rect.unit off s.size inb) = X := by
  funext y
  refine congrArg X (funext fun a => Fin.ext ?_)
  have h : off a = 0 := by have := inb a; omega
  show off a + 1 * (y a).val = (y a).val
  rw [h]; omega

/-- The block with at most two live adapters. -/
def outLow (x0 : Vec F S1024x2048 .bf16) (w : Vec F S2048x2048 .bf16) (x1 : Vec F S1024x512 .bf16) (b : Vec F S1024x2048 .bf16) : Vec F S1024x2048 .bf16 :=
  k0_pay2 x0 w x1 (sub b (Rect.unit (s := S1024x2048) ![0, 0] S512x2048.size inb_S1024x2048_S512x2048_0_0))

/-- Column chunk `q` of the block with more. -/
def chunk (x0 : Vec F S1024x2048 .bf16) (w : Vec F S2048x2048 .bf16) (x1 x2 : Vec F S1024x512 .bf16) (b : Vec F S1024x2048 .bf16) (q : Fin k0_t3_loop.trips) :
    Vec F S1024x512 .bf16 :=
  k0_pay3 x0 (sub w (Rect.unit (s := S2048x2048) (k0_off7 q) S2048x512.size (k0_off7_inb q))) x1
    (sub b (Rect.unit (s := S1024x2048) (k0_off8 q) S512x512.size (k0_off8_inb q))) x2
    (sub b (Rect.unit (s := S1024x2048) (k0_off9 q) S512x512.size (k0_off9_inb q)))

theorem trips3_eq : k0_t3_loop.trips = 4 := by decide

/-- The chunk that a column of the block is in. -/
abbrev chunkOf (y : S1024x2048.Idx) : Fin k0_t3_loop.trips := ⟨(y 1).val / 512, by
  have h : (y 1).val < 2048 := (y 1).isLt
  rw [trips3_eq]; omega⟩

/-- Its place in the chunk. -/
abbrev inChunk (y : S1024x2048.Idx) : S1024x512.Idx := fun a => match a with
  | ⟨0, _⟩ => ⟨(y 0).val, (y 0).isLt⟩
  | ⟨1, _⟩ => ⟨(y 1).val % 512, Nat.mod_lt _ (by decide)⟩

/-- The block with more than two live adapters. -/
def outHigh (x0 : Vec F S1024x2048 .bf16) (w : Vec F S2048x2048 .bf16) (x1 x2 : Vec F S1024x512 .bf16) (b : Vec F S1024x2048 .bf16) : Vec F S1024x2048 .bf16 :=
  fun y => chunk x0 w x1 x2 b (chunkOf y) (inChunk y)

/-- The block that a point stores. -/
def outBlk (T : S136.Idx → BitVec 32) (x0 : Vec F S1024x2048 .bf16) (w : Vec F S2048x2048 .bf16) (x1 x2 : Vec F S1024x512 .bf16) (b : Vec F S1024x2048 .bf16) :
    Vec F S1024x2048 .bf16 :=
  if k0_cond2 (liveWord T) = 1#1 then outLow x0 w x1 b else outHigh x0 w x1 x2 b

/-- The first conditional is taken when the word is at most two, -/
theorem cond2_iff (v : BitVec 32) : Iff (k0_cond2 v = 1#1) (v.toInt ≤ 2) := by
  have e : Scalar.cmpi .sle v 2#32 = BitVec.ofBool (decide (v.toInt ≤ 2)) := rfl
  unfold k0_cond2; dsimp only; rw [e]
  by_cases h : v.toInt ≤ 2
  · rw [decide_eq_true h]; exact iff_of_true (by decide) h
  · rw [decide_eq_false h]; exact iff_of_false (by decide) h

/-- the second when it is not. -/
theorem cond3_iff (v : BitVec 32) : Iff (k0_cond3 v = 1#1) (¬ k0_cond2 v = 1#1) := by
  rw [cond2_iff, Int.not_le]
  have e : Scalar.cmpi .sgt v 2#32 = BitVec.ofBool (decide (2 < v.toInt)) := rfl
  unfold k0_cond3; dsimp only; rw [e]
  by_cases h : 2 < v.toInt
  · rw [decide_eq_true h]; exact iff_of_true (by decide) h
  · rw [decide_eq_false h]; exact iff_of_false (by decide) h

/-- The word as the body's load reads it. -/
abbrev lw (T : S136.Idx → BitVec 32) : BitVec 32 :=
  tbM0_0.view.readAt (Elt F) (Rect.unit (s := S136) ![128] S1.size inb_S136_S1_128).toLoadRect T (Shape.Idx.first (s := S1) (numel1_S1.symm ▸ Nat.one_pos))

theorem lw_eq (T : S136.Idx → BitVec 32) : lw (F := F) T = liveWord T := by
  show T _ = T _
  refine congrArg T (funext fun a => Fin.ext ?_)
  fin_cases a
  rfl

variable (c : Dev nD) (i : grid0.Coords) {T : S136.Idx → BitVec 32}
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

theorem tail_low [∀ e, Nonempty (Elt F e)] (x0 : Vec F S1024x2048 .bf16) (w : Vec F S2048x2048 .bf16) (x1 x2 : Vec F S1024x512 .bf16) (b : Vec F S1024x2048 .bf16)
    (h2 : k0_cond2 (liveWord T) = 1#1) (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outLow x0 w x1 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  rw [← lw_eq (F := F)] at h2
  have h3 : ¬ k0_cond3 (lw (F := F) T) = 1#1 := fun h => (cond3_iff _).1 h h2
  unfold tailP owns
  iintro ⟨HT, ⟨%f0, %hf0, H0⟩, ⟨%f1, %hf1, H1⟩, ⟨%f2, %hf2, H2⟩, Hw, Hb, ⟨%d, %f9, -, H9⟩, Hk⟩
  obtain rfl := harg3.eq_unread hf0
  obtain rfl := harg4.eq_unread hf1
  obtain rfl := harg5.eq_unread hf2
  sl_exec (disch := first | sl_exact h2 | sl_exact h3)
  sl_step
  iapply Hk
  isplitl [HT]; · iexact HT
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [Hw]; · iexact Hw
  isplitl [Hb]; · iexact Hb
  iexists _; isplitr; swap; · iexact H9
  ipureintro
  rw [View.read_writes_full]
  simp only [readAt_sub, harg3.read_unread, harg4.read_unread]
  unfold outLow
  rw [sub_full x0, sub_full x1]
  exact congrArg (fun v => k0_pay2 x0 v x1 _) (sub_full w _)

/-- Before trip `k` of the chunk loop: the first `k` chunks of the block stored. -/
def highAt (x0 : Vec F S1024x2048 .bf16) (w : Vec F S2048x2048 .bf16) (x1 x2 : Vec F S1024x512 .bf16) (b : Vec F S1024x2048 .bf16) (k : ℕ) (_ : Unit) : sProp 𝕄 :=
  iprop(owns (c : Thread nD τ) arg3 fullShare x0 ∗ owns (c : Thread nD τ) arg4 fullShare x1 ∗ owns (c : Thread nD τ) arg5 fullShare x2
    ∗ hbPt0 c scM0_0 w ∗ hbPt0 c scM0_1 b
    ∗ (∃ f, (arg9.view.loc (c : Thread nD τ) ↦[arg9.view.set]{fullShare} f)
        ∗ ⌜∀ y : S1024x2048.Idx, (y 1).val < 512 * k → arg9.view.read (Elt F) f y = outHigh x0 w x1 x2 b y⌝))

theorem high_step [∀ e, Nonempty (Elt F e)] (x0 : Vec F S1024x2048 .bf16) (w : Vec F S2048x2048 .bf16) (x1 x2 : Vec F S1024x512 .bf16) (b : Vec F S1024x2048 .bf16)
    (k : Fin k0_t3_loop.trips) (acc : Unit) :
    highAt c arg3 arg4 arg5 arg9 x0 w x1 x2 b k acc
      ⊢ wp frame (wpE (defs₀ (F := F)) Variants.none (c : Thread nD τ) none) Set.univ
          (k0_t3_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 k acc)
          (highAt c arg3 arg4 arg5 arg9 x0 w x1 x2 b (k.val + 1)) := by
  unfold highAt owns
  dsimp only [k0_t3_body]
  iintro ⟨⟨%f0, %hf0, H0⟩, ⟨%f1, %hf1, H1⟩, ⟨%f2, %hf2, H2⟩, Hw, Hb, ⟨%f9, H9, %hf9⟩⟩
  obtain rfl := harg3.eq_unread hf0
  obtain rfl := harg4.eq_unread hf1
  obtain rfl := harg5.eq_unread hf2
  sl_exec
  sl_step
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [Hw]; · iexact Hw
  isplitl [Hb]; · iexact Hb
  iexists _; isplitl [H9]; · iexact H9
  ipureintro
  intro y hy
  by_cases h : 512 * k.val ≤ (y 1).val
  · have hx : ∀ a, (y a).val = (![0, 512 * k.val] : Fin 2 → ℕ) a + (inChunk y a).val := by
      intro a; fin_cases a
      · show (y 0).val = 0 + (y 0).val; omega
      · show (y 1).val = 512 * k.val + (y 1).val % 512; omega
    refine (View.read_writes_cons_unit_of_mem (v := arg9.view) _ _ _ _ y (inChunk y) (k0_off10_eq k) hx).trans ?_
    have hq : chunkOf y = k := Fin.ext (show (y 1).val / 512 = k.val by omega)
    unfold outHigh; rw [hq]
    refine congrFun ?_ (inChunk y)
    simp only [readAt_sub, harg3.read_unread, harg4.read_unread, harg5.read_unread]
    rw [sub_full x0, sub_full x1, sub_full x2]
    rfl
  · refine (View.read_writes_cons_unit_of_not_mem (v := arg9.view) _ _ _ _ y (k0_off10_eq k) 1 (.inl ?_)).trans (hf9 y (by omega))
    show (y 1).val < 512 * k.val; omega

theorem tail_high [∀ e, Nonempty (Elt F e)] (x0 : Vec F S1024x2048 .bf16) (w : Vec F S2048x2048 .bf16) (x1 x2 : Vec F S1024x512 .bf16) (b : Vec F S1024x2048 .bf16)
    (h2 : ¬ k0_cond2 (liveWord T) = 1#1) (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outHigh x0 w x1 x2 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  rw [← lw_eq (F := F)] at h2
  have h3 : k0_cond3 (lw (F := F) T) = 1#1 := (cond3_iff _).2 h2
  unfold tailP
  iintro ⟨HT, H0, H1, H2, Hw, Hb, ⟨%d, H9⟩, Hk⟩
  sl_exec (disch := first | sl_exact h2 | sl_exact h3)
  sl_for (highAt c arg3 arg4 arg5 arg9 x0 w x1 x2 b) $$ [H0 H1 H2 Hw Hb H9]
  · intro k acc; exact high_step c i arg3 harg3 arg4 harg4 arg5 harg5 arg6 harg6 arg7 harg7 arg9 harg9 x0 w x1 x2 b k acc
  · iapply (show iprop(owns (c : Thread nD τ) arg3 fullShare x0 ∗ owns (c : Thread nD τ) arg4 fullShare x1 ∗ owns (c : Thread nD τ) arg5 fullShare x2
        ∗ hbPt0 c scM0_0 w ∗ hbPt0 c scM0_1 b ∗ owns (c : Thread nD τ) arg9 fullShare d) ⊢ highAt c arg3 arg4 arg5 arg9 x0 w x1 x2 b 0 () from by
      unfold highAt
      iintro ⟨H0, H1, H2, Hw, Hb, H9⟩
      isplitl [H0]; · iexact H0
      isplitl [H1]; · iexact H1
      isplitl [H2]; · iexact H2
      isplitl [Hw]; · iexact Hw
      isplitl [Hb]; · iexact Hb
      unfold owns
      icases H9 with ⟨%f, -, H9⟩
      iexists _; isplitl [H9]; · iexact H9
      ipureintro; intro y hy; omega)
    isplitl [H0]; · iexact H0
    isplitl [H1]; · iexact H1
    isplitl [H2]; · iexact H2
    isplitl [Hw]; · iexact Hw
    isplitl [Hb]; · iexact Hb
    iexact H9
  iintro %acc HL
  ihave HL' := (show highAt c arg3 arg4 arg5 arg9 x0 w x1 x2 b k0_t3_loop.trips acc
      ⊢ iprop(owns (c : Thread nD τ) arg3 fullShare x0 ∗ owns (c : Thread nD τ) arg4 fullShare x1 ∗ owns (c : Thread nD τ) arg5 fullShare x2
        ∗ hbPt0 c scM0_0 w ∗ hbPt0 c scM0_1 b ∗ owns (c : Thread nD τ) arg9 fullShare (outHigh x0 w x1 x2 b)) from by
    unfold highAt
    iintro ⟨H0, H1, H2, Hw, Hb, ⟨%f, H9, %hf⟩⟩
    isplitl [H0]; · iexact H0
    isplitl [H1]; · iexact H1
    isplitl [H2]; · iexact H2
    isplitl [Hw]; · iexact Hw
    isplitl [Hb]; · iexact Hb
    unfold owns
    iexists f; isplitr
    · ipureintro; funext y
      refine hf y ?_
      have hy : (y 1).val < 2048 := (y 1).isLt
      rw [trips3_eq]; omega
    iexact H9) $$ HL
  icases HL' with ⟨H0, H1, H2, Hw, Hb, H9⟩
  sl_exec
  sl_step
  iapply Hk
  isplitl [HT]; · iexact HT
  isplitl [H0]; · iexact H0
  isplitl [H1]; · iexact H1
  isplitl [H2]; · iexact H2
  isplitl [Hw]; · iexact Hw
  isplitl [Hb]; · iexact Hb
  iexact H9

/-- The part that runs at every point stores `outBlk`. -/
theorem tail_run [∀ e, Nonempty (Elt F e)] (x0 : Vec F S1024x2048 .bf16) (w : Vec F S2048x2048 .bf16) (x1 x2 : Vec F S1024x512 .bf16) (b : Vec F S1024x2048 .bf16)
    (K : PUnit → sProp 𝕄) :
    iprop(tbPt0 c tbM0_0 T ∗ owns (c : Thread nD τ) arg3 fullShare x0 ∗ owns (c : Thread nD τ) arg4 fullShare x1 ∗ owns (c : Thread nD τ) arg5 fullShare x2
        ∗ hbPt0 c scM0_0 w ∗ hbPt0 c scM0_1 b ∗ (∃ d, owns (c : Thread nD τ) arg9 fullShare d)
        ∗ (iprop(tbPt0 c tbM0_0 T ∗ owns (c : Thread nD τ) arg3 fullShare x0 ∗ owns (c : Thread nD τ) arg4 fullShare x1 ∗ owns (c : Thread nD τ) arg5 fullShare x2
            ∗ hbPt0 c scM0_0 w ∗ hbPt0 c scM0_1 b ∗ owns (c : Thread nD τ) arg9 fullShare (outBlk T x0 w x1 x2 b)) -∗ K ⟨⟩))
      ⊢ wp frame (wpE (defs₀ (F := F)) Variants.none (c : Thread nD τ) none) Set.univ
          (tailP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2) K := by
  unfold outBlk
  by_cases h2 : k0_cond2 (liveWord T) = 1#1
  · rw [if_pos h2]; exact tail_low c i arg3 harg3 arg4 harg4 arg5 harg5 arg6 harg6 arg7 harg7 arg9 harg9 x0 w x1 x2 b h2 K
  · rw [if_neg h2]; exact tail_high c i arg3 harg3 arg4 harg4 arg5 harg5 arg6 harg6 arg7 harg7 arg9 harg9 x0 w x1 x2 b h2 K

end Cert.KernelIdeal.Hand

end
-- ==== Proof.KernelIdeal.Tile.lean ====
/- The dequantised weight tile. Each packed word holds eight 4-bit codes, the least significant first; the tile's element is a
   code, read as a signed number, times its row group's scale. The body writes it in 64 blocks of 128 rows and 512 columns. -/
module

public import proofs.«01_k».proof.Proof.KernelIdeal.Tail
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The 4-bit code at place `p` of a word, sign-extended: shifted up to the top, then down with the sign. -/
def nib (w : BitVec 32) (p : ℕ) : BitVec 32 :=
  IntOp.shrsi .vector (IntOp.shli .vector w (IntOp.subi 28#32 (IntOp.muli 4#32 (BitVec.ofNat 32 p)))) 28#32

/-- The tile's element: the code that the packed words hold for its row, times the scale of its group of 128 rows. -/
def wfull (x3 : Vec F S256x2048 .i32) (x4 : Vec F S16x2048 .bf16) : Vec F S2048x2048 .bf16 := fun y =>
  FloatOps.mulf
    (FloatOps.sitofp (F := F) .bf16 (nib (x3 (ix2 ⟨(y 0).val / 8, by have h : (y 0).val < 2048 := (y 0).isLt; omega⟩ (y 1))) ((y 0).val % 8)))
    (x4 (ix2 ⟨(y 0).val / 128, by have h : (y 0).val < 2048 := (y 0).isLt; omega⟩ (y 1)))

theorem codes_apply (v : Vec F S256x512 .i32) (y : S2048x512.Idx) :
    k0_pay4 v y = FloatOps.sitofp (F := F) .bf16
      (nib (v (ix2 ⟨(y 0).val / 8, by have h : (y 0).val < 2048 := (y 0).isLt; omega⟩ (y 1))) ((y 0).val % 8)) := by
  unfold k0_pay4 nib
  simp only [sitofp, shrsi, shli, subi, muli, broadcast]
  pointwise

/-- One block of the tile, as the body computes it: rows `o = 128 g` on, columns `p` on. -/
theorem piece_ok (arg6 : Memref sig .tc .vmem S256x2048 .i32) (harg6 : arg6.IsWhole) (arg7 : Memref sig .tc .vmem S16x2048 .bf16) (harg7 : arg7.IsWhole)
    (x3 : Vec F S256x2048 .i32) (x4 : Vec F S16x2048 .bf16) (g o p : ℕ) (ho : o = 128 * g)
    (i1 : ∀ a, (![0, p] : Fin 2 → ℕ) a + (![256, 512] : Fin 2 → ℕ) a ≤ S256x2048.size a)
    (i2 : ∀ a, (![g, p] : Fin 2 → ℕ) a + (![1, 512] : Fin 2 → ℕ) a ≤ S16x2048.size a)
    (i3 : ∀ a, (![o, p] : Fin 2 → ℕ) a + (![128, 512] : Fin 2 → ℕ) a ≤ S2048x2048.size a)
    (hs : S2048x512.Slices ![o, 0] S128x512) (hb : S1x512.Broadcasts S128x512) (hc : S128x512.ShapeCasts S128x512) (x : S128x512.Idx) :
    shapeCast S128x512 (mulf (φ := .bf16)
        (extractStridedSlice S128x512 ![o, 0] (k0_pay4 (View.readAt (Elt F) arg6.view (Rect.unit (s := S256x2048) ![0, p] ![256, 512] i1).toLoadRect (harg6.unread x3))) hs)
        (broadcastTo S128x512 (View.readAt (Elt F) arg7.view (Rect.unit (s := S16x2048) ![g, p] ![1, 512] i2).toLoadRect (harg7.unread x4)) hb)) hc x
      = wfull x3 x4 ((Rect.unit (s := S2048x2048) ![o, p] ![128, 512] i3).emb x) := by
  subst ho
  have hx0 : (x 0).val < 128 := (x 0).isLt
  have hx1 : (x 1).val < 512 := (x 1).isLt
  have e : Shape.reshapeEquiv hc x = x := Shape.reshapeEquiv_eq_of_rowMajor _ rfl
  simp only [shapeCast, e, mulf, extractStridedSlice, codes_apply, readAt_sub, harg6.read_unread, harg7.read_unread]
  unfold wfull sub
  refine congrArg₂ _ (congrArg _ (congrArg₂ nib (congrArg x3 (funext fun a => Fin.ext ?_)) ?_)) (congrArg x4 (funext fun a => Fin.ext ?_))
  · match a with
    | ⟨0, _⟩ => show 0 + 1 * ((128 * g + (x 0).val) / 8) = (128 * g + 1 * (x 0).val) / 8; omega
    | ⟨1, _⟩ => show p + 1 * (0 + (x 1).val) = p + 1 * (x 1).val; omega
  · show (128 * g + (x 0).val) % 8 = (128 * g + 1 * (x 0).val) % 8; omega
  · match a with
    | ⟨0, _⟩ => show g + 1 * 0 = (128 * g + 1 * (x 0).val) / 128; omega
    | ⟨1, _⟩ => show p + 1 * (x 1).val = p + 1 * (x 1).val; omega

end Cert.KernelIdeal.Hand

end
-- ==== Proof.KernelIdeal.Loops.lean ====
/- One trip of each transfer loop: trip `k` of the first starts copy `k`; trip `k` of the second waits once, and the last
   wait hands back everything that was copied. -/
module

public import proofs.«01_k».proof.Proof.KernelIdeal.Dma

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T)
  (fv : HbBuf0 (F := F) c scM0_1) (fs : HbBuf0 (F := F) c hbM0_0)
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

/-- Before trip `k` of the first loop: `k` copies started, none waited for; the rows and read shares of the copies from
    `k` on still in hand; the page words. -/
def issueAt (k : ℕ) (_ : Unit) : sProp 𝕄 :=
  iprop(batch c i hT fv fs k 0
    ∗ bigSep (Ring.rangeSet k0_t1_loop.trips k k0_t1_loop.trips) (fun t => dstPt c t (fvAt c fv t))
    ∗ bigSep (Ring.rangeSet k0_t1_loop.trips k k0_t1_loop.trips) (fun t => srcPt c i hT fs t)
    ∗ tbPt0 c tbM0_0 T)

theorem issue_step [∀ e, Nonempty (Elt F e)] (arg0 : BitVec 32) (h1 : k0_cond1 i = 1#1) (k : Fin k0_t1_loop.trips) (acc : Unit) :
    issueAt c i hT fv fs k acc
      ⊢ wp frame (wpE (defs₀ (F := F)) Variants.none (c : Thread nD τ) none) Set.univ
          (k0_t1_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 arg0 h1 k acc)
          (issueAt c i hT fv fs (k.val + 1)) := by
  have hkT : k.val < 128 := trips1_eq ▸ k.isLt
  have hchk : k0_chk1 i (wd (F := F) T k) := chk1_of i _ (wd_lt hT k)
  unfold issueAt
  rw [Ring.bigSep_rangeSet_head (Φ := fun t => dstPt c t (fvAt c fv t)) k.isLt k.isLt,
    Ring.bigSep_rangeSet_head (Φ := fun t => srcPt c i hT fs t) k.isLt k.isLt]
  iintro ⟨HB, ⟨HP, HPs⟩, ⟨HS, HSs⟩, H0⟩
  dsimp only [k0_t1_body]
  sl_exec (disch := first | exact hchk)
  sl_step
  isplitl [HB]; · iexact HB
  isplitl [HPs]; · iexact HPs
  isplitl [HSs]; · iexact HSs
  iexact H0

/-- Before trip `k` of the second loop: the waits so far recorded, the page words, and either the batch with `k` copies'
    credit consumed or, after the last trip, the semaphore back at zero and everything delivered. -/
def drainAt (k : ℕ) (_ : Unit) : sProp 𝕄 :=
  iprop((∃ W, owes (c : Thread nD τ) 0 W) ∗ tbPt0 c tbM0_0 T
    ∗ (if k < k0_t2_loop.trips then batch c i hT fv fs k0_t1_loop.trips (k * NN)
       else iprop(semVal ((c : Thread nD τ), SemLoc.dma cc0_scratch2.sem) 0 ∗ bigSep Finset.univ (D c i hT fv fs))))

theorem drain_step [∀ e, Nonempty (Elt F e)] (h1 : k0_cond1 i = 1#1) (k : Fin k0_t2_loop.trips) (acc : Unit) :
    drainAt c i hT fv fs k acc
      ⊢ wp frame (wpE (defs₀ (F := F)) Variants.none (c : Thread nD τ) none) Set.univ
          (k0_t2_body i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 h1 k acc)
          (drainAt c i hT fv fs (k.val + 1)) := by
  have hk : k.val < k0_t2_loop.trips := k.isLt
  have e1 := trips1_eq
  have e2 := trips2_eq
  have hchk : k0_chk2 i (wd (F := F) T k) := chk2_of i _ (wd_lt hT k)
  unfold drainAt
  simp only [if_pos hk]
  rcases Nat.lt_or_ge (k.val + 1) k0_t2_loop.trips with hk1 | hk1
  · simp only [if_pos hk1]
    iintro ⟨⟨%W, HO⟩, H0, HB⟩
    dsimp only [k0_t2_body]
    sl_exec (disch := exact hchk)
    sl_step
    isplitl [HO]; · iexists _; iexact HO
    isplitl [H0]; · iexact H0
    rw [show (k.val + 1) * NN = k.val * NN + NN from Nat.succ_mul _ _]
    iexact HB
  · simp only [if_neg (Nat.not_lt.mpr hk1)]
    iintro ⟨⟨%W, HO⟩, H0, HB⟩
    dsimp only [k0_t2_body]
    sl_exec (disch := exact hchk)
    sl_step
    isplitl [HO]; · iexists _; iexact HO
    isplitl [H0]; · iexact H0
    isplitl [HB]; · iexact HB
    iexact HB_all

end Cert.KernelIdeal.Hand

end
-- ==== Proof.KernelIdeal.Pages.lean ====
/- The VMEM buffer by the rows of the 128 copies, the pool by its 128 read shares, and what the buffer holds once every
   copy has landed: `pageRows`. -/
module

public import proofs.«01_k».proof.Proof.KernelIdeal.Dma

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T)
  (fv : HbBuf0 (F := F) c scM0_1) (fs : HbBuf0 (F := F) c hbM0_0)

/-- Where row `y 0`, column `y 1` of the VMEM buffer comes from in the pool: row `y 0 % 8` of the page that word
    `y 0 / 8` names, column `y 1` of the current column block. -/
def pix (y : S1024x2048.Idx) : S1000x8192.Idx := fun a => match a with
  | ⟨0, _⟩ => ⟨(T (wix ⟨(y 0).val / 8, by have : (y 0).val < 1024 := (y 0).isLt; omega⟩)).toNat * 8 + (y 0).val % 8, by
      have := hT ⟨(y 0).val / 8, by have : (y 0).val < 1024 := (y 0).isLt; omega⟩
      show _ < 1000; omega⟩
  | ⟨1, _⟩ => ⟨(i 0).val * 2048 + (y 1).val, by
      have : (y 1).val < 2048 := (y 1).isLt
      have := col_lt i
      show _ < 8192; omega⟩

/-- The VMEM buffer after the copies. -/
def pageRows (P : S1000x8192.Idx → Elt F .bf16) : S1024x2048.Idx → Elt F .bf16 := fun y => P (pix i hT y)

theorem dstSet_eq (k : Fin k0_t1_loop.trips) : (dstM k).view.set = (Rect.unit (s := S1024x2048) (k0_off2 k) S8x2048.size (off2_inb k)).set := by
  unfold dstM; exact View.set_slice_whole _ _

theorem mem_dstSet (k : Fin k0_t1_loop.trips) (y : S1024x2048.Idx) : y ∈ (Rect.unit (s := S1024x2048) (k0_off2 k) S8x2048.size (off2_inb k)).set ↔ (y 0).val / 8 = k.val := by
  rw [Rect.mem_set_unit, off2_eq k]
  have h0 : (y 0).val < 1024 := (y 0).isLt
  have h1 : (y 1).val < 2048 := (y 1).isLt
  constructor
  · intro H; have a0 : 8 * k.val ≤ (y 0).val ∧ (y 0).val < 8 * k.val + 8 := H 0; omega
  · intro H a; fin_cases a
    · show 8 * k.val ≤ (y 0).val ∧ (y 0).val < 8 * k.val + 8; omega
    · show 0 ≤ (y 1).val ∧ (y 1).val < 0 + 2048; omega

/-- The rows of copy `k`. -/
abbrev rows (k : Fin k0_t1_loop.trips) : Finset S1024x2048.Idx := (Rect.unit (s := S1024x2048) (k0_off2 k) S8x2048.size (off2_inb k)).set
theorem rows_disjoint : ∀ k k' : Fin k0_t1_loop.trips, k ≠ k' → Disjoint (rows k) (rows k') := fun k k' hne => by
  rw [Finset.disjoint_left]; intro y hy hy'; rw [mem_dstSet] at hy hy'; exact hne (Fin.ext (by omega))
theorem rows_cover : Finset.univ.biUnion rows = Finset.univ := by
  ext y; simp only [Finset.mem_biUnion, Finset.mem_univ, true_and, iff_true]
  have h0 : (y 0).val < 1024 := (y 0).isLt
  exact ⟨⟨(y 0).val / 8, by rw [trips1_eq]; omega⟩, (mem_dstSet _ _).mpr rfl⟩

/-- Element `x` of the rows of copy `k`, in the buffer. -/
abbrev emb0 (k : Fin k0_t1_loop.trips) (x : S8x2048.Idx) : S1024x2048.Idx := (dstM k).view.emb x

/-- On the rows of copy `k`, what landed is `pageRows`. -/
theorem landed_on (k : Fin k0_t1_loop.trips) (y : S1024x2048.Idx) (hy : y ∈ (dstM k).view.set) :
    landed c i hT fv fs k y = pageRows i hT fs y := by
  obtain ⟨x, -, rfl⟩ := Finset.mem_map.mp hy
  have hw := wd_lt (F := F) hT k
  have e3 := off3_eq i (wd (F := F) T k) hw
  have e30 : k0_off3 i (wd (F := F) T k) 0 = (wd (F := F) T k).toNat * 8 := congrFun e3 0
  have e31 : k0_off3 i (wd (F := F) T k) 1 = (i 0).val * 2048 := congrFun e3 1
  have e20 : k0_off2 k 0 = 8 * k.val := congrFun (off2_eq k) 0
  have e21 : k0_off2 k 1 = 0 := congrFun (off2_eq k) 1
  have hk : k.val < 128 := trips1_eq ▸ k.isLt
  have x0 : (x 0).val < 8 := (x 0).isLt
  have x1 : (x 1).val < 2048 := (x 1).isLt
  unfold landed
  rw [← View.write_univ_eq_writes_whole]
  refine (View.write_emb_of_mem _ _ (Finset.mem_univ x)).trans ?_
  have hy0 : (emb0 k x 0).val = k0_off2 k 0 + 1 * (x 0).val := rfl
  have hy1 : (emb0 k x 1).val = k0_off2 k 1 + 1 * (x 1).val := rfl
  show fs _ = fs _
  refine congrArg fs (funext fun a => Fin.ext ?_)
  fin_cases a
  · show k0_off3 i (wd (F := F) T k) 0 + 1 * (x 0).val = (T (wix ⟨(emb0 k x 0).val / 8, _⟩)).toNat * 8 + (emb0 k x 0).val % 8
    have e : (⟨(emb0 k x 0).val / 8, by rw [hy0, e20]; omega⟩ : Fin 128) = k.cast trips1_eq := Fin.ext (by
      show (emb0 k x 0).val / 8 = k.val
      rw [hy0, e20]; omega)
    rw [e30, e, ← wd_eq (F := F) T k, hy0, e20]; omega
  · show k0_off3 i (wd (F := F) T k) 1 + 1 * (x 1).val = (i 0).val * 2048 + (emb0 k x 1).val
    rw [e31, hy1, e21]; omega

/-! ## The buffer and the pool, apart and together -/

theorem buf_split (g : HbBuf0 (F := F) c scM0_1) :
    (hbPt0 c scM0_1 g : sProp 𝕄) = bigSep Finset.univ (fun k => dstPt c k (fvAt c g k)) := by
  refine (Ring.pointsTo_blocks (ℓ := scM0_1.view.loc (c : Thread nD τ)) (q := fullShare) rows rows_disjoint rows_cover g).trans ?_
  refine BI.bigSep_congr fun k _ => ?_
  unfold dstPt; rw [dstSet_eq]; rfl

theorem buf_join : (bigSep Finset.univ (fun k => dstPt c k (landed c i hT fv fs k)) : sProp 𝕄) = hbPt0 c scM0_1 (pageRows i hT fs) := by
  rw [buf_split]
  exact BI.bigSep_congr fun k _ => pointsTo_congr fun y hy => landed_on c i hT fv fs k y hy

/-- The part of the pool that copy `k` does not read, under its share. -/
abbrev restPt (k : Fin k0_t1_loop.trips) : sProp 𝕄 :=
  hbM0_0.view.loc (c : Thread nD τ) ↦[Finset.univ \ (src (F := F) i hT k).view.set]{Transfers.shareTokN fullShare k.val} fs
/-- What is left of the pool's full share beside the copies' shares. -/
abbrev dropPt : sProp 𝕄 := hbM0_0.view.loc (c : Thread nD τ) ↦[Finset.univ]{Transfers.shareDrop fullShare k0_t1_loop.trips} fs

theorem pool_split :
    (hbPt0 c hbM0_0 fs : sProp 𝕄) = iprop(dropPt c fs ∗ (bigSep Finset.univ (fun k => srcPt c i hT fs k) ∗ bigSep Finset.univ (fun k => restPt c i hT fs k))) := by
  have h1 := Transfers.pointsTo_toks_range (Ix := Unit) (Val := Elt F) (Name := ℕ) (U := Pipeline.UD sig nD τ) (Lvl := ℕ)
    (ℓ := hbM0_0.view.loc (c : Thread nD τ)) (S := Finset.univ) (f := fs) fullShare k0_t1_loop.trips
  have h2 : ∀ k : Fin k0_t1_loop.trips,
      (hbM0_0.view.loc (c : Thread nD τ) ↦[Finset.univ]{Transfers.shareTokN fullShare k.val} fs : sProp 𝕄) = iprop(srcPt c i hT fs k ∗ restPt c i hT fs k) := fun k =>
    have h : (hbM0_0.view.loc (c : Thread nD τ) ↦[Finset.univ]{Transfers.shareTokN fullShare k.val} fs : sProp 𝕄) ⊣⊢ iprop(srcPt c i hT fs k ∗ restPt c i hT fs k) :=
      pointsTo_split_subset (Finset.subset_univ _)
    BI.equiv_iff.mp ⟨h.1, h.2⟩
  refine (BI.equiv_iff.mp ⟨h1.1, h1.2⟩ : (hbPt0 c hbM0_0 fs : sProp 𝕄) = _).trans ?_
  rw [← Ring.bigSep_fin_eq_range k0_t1_loop.trips
    (fun k => (hbM0_0.view.loc (c : Thread nD τ) ↦[Finset.univ]{Transfers.shareTokN fullShare k.val} fs : sProp 𝕄)) _ (fun _ _ => rfl),
    BI.bigSep_congr (fun k _ => h2 k)]
  exact congrArg (fun A : sProp 𝕄 => iprop(dropPt c fs ∗ A)) (BI.bigSep_sep _ _ _)

/-- Everything delivered: the buffer at `pageRows`, and the shares of the pool back. -/
theorem deliveries :
    (bigSep Finset.univ (D c i hT fv fs) : sProp 𝕄)
      = iprop(hbPt0 c scM0_1 (pageRows i hT fs) ∗ bigSep Finset.univ (fun k => srcPt c i hT fs k)) := by
  rw [← buf_join c i hT fv fs]; exact BI.bigSep_sep _ _ _

end Cert.KernelIdeal.Hand

end
-- ==== Proof.KernelIdeal.Fill.lean ====
/- The part of the body that runs at a column block's first point. It leaves in the one buffer the page rows, and in the other the
   dequantised weight tile. -/
module

public import proofs.«01_k».proof.Proof.KernelIdeal.Tile
public import proofs.«01_k».proof.Proof.KernelIdeal.Loops
public import proofs.«01_k».proof.Proof.KernelIdeal.Pages
public import Idealize.ShloMosaic.Lib.Tactic.Stretches
public import Idealize.ShloMosaic.Lib.Pipeline.ReadBack
public import Idealize.ShloMosaic.Lib.Ring

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) {T : S136.Idx → BitVec 32} (hT : PagesOk T) (fs : HbBuf0 (F := F) c hbM0_0)
  (arg3 : Memref sig .tc .vmem S1024x2048 .bf16) (harg3 : arg3.IsWhole) (arg4 : Memref sig .tc .vmem S1024x512 .bf16) (harg4 : arg4.IsWhole)
  (arg5 : Memref sig .tc .vmem S1024x512 .bf16) (harg5 : arg5.IsWhole) (arg6 : Memref sig .tc .vmem S256x2048 .i32) (harg6 : arg6.IsWhole)
  (arg7 : Memref sig .tc .vmem S16x2048 .bf16) (harg7 : arg7.IsWhole) (arg9 : Memref sig .tc .vmem S1024x2048 .bf16) (harg9 : arg9.IsWhole)

/-- A buffer whose stores are all blocks of the tile, and which they cover, holds the tile. -/
theorem wbuf_done [∀ e, Nonempty (Elt F e)] (x3 : Vec F S256x2048 .i32) (x4 : Vec F S16x2048 .bf16) (fw : HbBuf0 (F := F) c scM0_0) (L : List (View.Piece (Elt F) S2048x2048 .bf16))
    (hp : View.PiecesOf (wfull x3 x4) L) (hc : ∀ y, ∃ p ∈ L, y ∈ p.1.set) :
    scM0_0.view.writes (Elt F) fw L = wfull x3 x4 := by
  have h := View.read_writes_eq_canon scM0_0.view fw L hc
  refine (show scM0_0.view.writes (Elt F) fw L = scM0_0.view.read (Elt F) (scM0_0.view.writes (Elt F) fw L) from rfl).trans (h.trans (funext fun y => ?_))
  exact (congrArg (fun l => View.canon l y) (List.append_nil L).symm).trans (View.canon_append_of_piecesOf _ [] L hp y (hc y))

set_option maxHeartbeats 8000000 in
theorem fill_run [∀ e, Nonempty (Elt F e)] (x3 : Vec F S256x2048 .i32) (x4 : Vec F S16x2048 .bf16) (arg0 : BitVec 32) (h1 : k0_cond1 i = 1#1)
    (W : Waits sig Unit) (K : PUnit → sProp 𝕄) :
    iprop(tbPt0 c tbM0_0 T ∗ owns (c : Thread nD τ) arg6 fullShare x3 ∗ owns (c : Thread nD τ) arg7 fullShare x4
        ∗ (∃ d, hbPt0 c scM0_0 d) ∗ (∃ d, hbPt0 c scM0_1 d)
        ∗ semVal ((c : Thread nD τ), SemLoc.dma cc0_scratch2.sem) 0 ∗ hbPt0 c hbM0_0 fs ∗ owes (c : Thread nD τ) 0 W
        ∗ (iprop(tbPt0 c tbM0_0 T ∗ owns (c : Thread nD τ) arg6 fullShare x3 ∗ owns (c : Thread nD τ) arg7 fullShare x4
            ∗ hbPt0 c scM0_0 (wfull x3 x4) ∗ hbPt0 c scM0_1 (pageRows i hT fs)
            ∗ semVal ((c : Thread nD τ), SemLoc.dma cc0_scratch2.sem) 0 ∗ hbPt0 c hbM0_0 fs ∗ (∃ W, owes (c : Thread nD τ) 0 W)) -∗ K ⟨⟩))
      ⊢ wp frame (wpE (defs₀ (F := F)) Variants.none (c : Thread nD τ) none) Set.univ
          (fillP i tbM0_0 htbM0_0 arg3 harg3 arg4 harg4 arg5 harg5 arg6 harg6 arg7 harg7 hbM0_0 (Memref.isWhole_whole _) arg9 harg9 scM0_0 (Memref.isWhole_whole _) scM0_1 (Memref.isWhole_whole _) cc0_scratch2 arg0 h1) K := by
  unfold fillP owns
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [bind_assoc, pure_bind]
  rw [pool_split c i hT fs]
  iintro ⟨HT, ⟨%f3, %hf3, H3⟩, ⟨%f4, %hf4, H4⟩, ⟨%fw, Hw⟩, ⟨%fv, Hb⟩, Hc, ⟨Hd, HsP, HsR⟩, HO, Hk⟩
  obtain rfl := harg6.eq_unread hf3
  obtain rfl := harg7.eq_unread hf4
  ihave HvP := (Entails.of_eq (buf_split c fv)) $$ Hb
  imod (Transfers.batch_alloc' (Lvl := ℕ) (countersEmb (U := Pipeline.UD sig nD τ)) (c : Thread nD τ) () NN (D c i hT fv fs) (sm := .dma cc0_scratch2.sem) (E := Set.univ)) $$ Hc with HB
  sl_for (issueAt c i hT fv fs) $$ [HB HvP HsP HT]
  · intro k acc; exact issue_step c i hT fv fs arg3 harg3 arg4 harg4 arg5 harg5 arg6 harg6 arg7 harg7 arg9 harg9 arg0 h1 k acc
  · iapply (show iprop(batch c i hT fv fs 0 0 ∗ bigSep Finset.univ (fun t => dstPt c t (fvAt c fv t)) ∗ bigSep Finset.univ (fun t => srcPt c i hT fs t) ∗ tbPt0 c tbM0_0 T)
        ⊢ issueAt c i hT fv fs 0 () from by
      unfold issueAt; rw [Ring.rangeSet_univ])
    isplitl [HB]; · iexact HB
    isplitl [HvP]; · iexact HvP
    isplitl [HsP]; · iexact HsP
    iexact HT
  iintro %acc HL
  ihave HL' := (show issueAt c i hT fv fs k0_t1_loop.trips acc ⊢ iprop(batch c i hT fv fs k0_t1_loop.trips 0 ∗ tbPt0 c tbM0_0 T) from by
    unfold issueAt; simp only [Ring.bigSep_rangeSet_empty (Nat.le_refl _)]
    iintro ⟨A, -, -, B⟩; isplitl [A] <;> iassumption) $$ HL
  icases HL' with ⟨HB, HT⟩
  sl_exec
  sl_for (drainAt c i hT fv fs) $$ [HO HT HB]
  · intro k acc; exact drain_step c i hT fv fs arg3 harg3 arg4 harg4 arg5 harg5 arg6 harg6 arg7 harg7 arg9 harg9 h1 k acc
  · iapply (show iprop((∃ W, owes (c : Thread nD τ) 0 W) ∗ tbPt0 c tbM0_0 T ∗ batch c i hT fv fs k0_t1_loop.trips 0) ⊢ drainAt c i hT fv fs 0 () from by
      unfold drainAt; rw [if_pos (by rw [trips2_eq]; decide), Nat.zero_mul])
    isplitl [HO]; · iexists W; iexact HO
    isplitl [HT]; · iexact HT
    iexact HB
  iintro %acc2 HL
  ihave HL' := (show drainAt c i hT fv fs k0_t2_loop.trips acc2 ⊢ iprop((∃ W, owes (c : Thread nD τ) 0 W) ∗ tbPt0 c tbM0_0 T
      ∗ semVal ((c : Thread nD τ), SemLoc.dma cc0_scratch2.sem) 0 ∗ hbPt0 c scM0_1 (pageRows i hT fs) ∗ bigSep Finset.univ (fun k => srcPt c i hT fs k)) from by
    unfold drainAt; rw [if_neg (Nat.lt_irrefl _), deliveries]) $$ HL
  icases HL' with ⟨HO, HT, Hc, Hb, HsP⟩
  sl_exec
  rw [wp_ret]
  imodintro
  iapply Hk
  isplitl [HT]; · iexact HT
  isplitl [H3]; · iexists _; isplitr; · ipureintro; exact hf3
                  iexact H3
  isplitl [H4]; · iexists _; isplitr; · ipureintro; exact hf4
                  iexact H4
  isplitl [Hw]
  · iapply (Entails.of_eq (congrArg (fun d => (hbPt0 c scM0_0 d : sProp 𝕄)) (wbuf_done c x3 x4 scM0_0.view.junk _ ?_ ?_)))
    pick_goal 3
    · iexact Hw
    · sl_open_run
      exact ⟨
        piece_ok arg6 harg6 arg7 harg7 x3 x4 15 1920 1536 rfl _ _ inb_S2048x2048_S128x512_1920_1536 slices_S2048x512_o1920_0_S128x512 _ _,
        piece_ok arg6 harg6 arg7 harg7 x3 x4 14 1792 1536 rfl _ _ inb_S2048x2048_S128x512_1792_1536 slices_S2048x512_o1792_0_S128x512 _ _,
        piece_ok arg6 harg6 arg7 harg7 x3 x4 13 1664 1536 rfl _ _ inb_S2048x2048_S128x512_1664_1536 slices_S2048x512_o1664_0_S128x512 _ _,
        piece_ok arg6 harg6 arg7 harg7 x3 x4 12 1536 1536 rfl _ _ inb_S2048x2048_S128x512_1536_1536 slices_S2048x512_o1536_0_S128x512 _ _,
        piece_ok arg6 harg6 arg7 harg7 x3 x4 11 1408 1536 rfl _ _ inb_S2048x2048_S128x512_1408_1536 slices_S2048x512_o1408_0_S128x512 _ _,
        piece_ok arg6 harg6 arg7 harg7 x3 x4 10 1280 1536 rfl _ _ inb_S2048x2048_S128x512_1280_1536 slices_S2048x512_o1280_0_S128x512 _ _,
        piece_ok arg6 harg6 arg7 harg7 x3 x4 9 1152 1536 rfl _ _ inb_S2048x2048_S128x512_1152_1536 slices_S2048x512_o1152_0_S128x512 _ _,
        piece_ok arg6 harg6 arg7 harg7 x3 x4 8 1024 1536 rfl _ _ inb_S2048x2048_S128x512_1024_1536 slices_S2048x512_o1024_0_S128x512 _ _,
        piece_ok arg6 harg6 arg7 harg7 x3 x4 7 896 1536 rfl _ _ inb_S2048x2048_S128x512_896_1536 slices_S2048x512_o896_0_S128x512 _ _,
        piece_ok arg6 harg6 arg7 harg7 x3 x4 6 768 1536 rfl _ _ inb_S2048x2048_S128x512_768_1536 slices_S2048x512_o768_0_S128x512 _ _,
        piece_ok arg6 harg6 arg7 harg7 x3 x4 5 640 1536 rfl _ _ inb_S2048x2048_S128x512_640_1536 slices_S2048x512_o640_0_S128x512 _ _,
        piece_ok arg6 harg6 arg7 harg7 x3 x4 4 512 1536 rfl _ _ inb_S2048x2048_S128x512_512_1536 slices_S2048x512_o512_0_S128x512 _ _,
        piece_ok arg6 harg6 arg7 harg7 x3 x4 3 384 1536 rfl _ _ inb_S2048x2048_S128x512_384_1536 slices_S2048x512_o384_0_S128x512 _ _,
        piece_ok arg6 harg6 arg7 harg7 x3 x4 2 256 1536 rfl _ _ inb_S2048x2048_S128x512_256_1536 slices_S2048x512_o256_0_S128x512 _ _,
        piece_ok arg6 harg6 arg7 harg7 x3 x4 1 128 1536 rfl _ _ inb_S2048x2048_S128x512_128_1536 slices_S2048x512_o128_0_S128x512 _ _,
        piece_ok arg6 harg6 arg7 harg7 x3 x4 0 0 1536 rfl _ _ inb_S2048x2048_S128x512_0_1536 slices_S2048x512_o0_0_S128x512 _ _,
        piece_ok arg6 harg6 arg7 harg7 x3 x4 15 1920 1024 rfl _ _ inb_S2048x2048_S128x512_1920_1024 slices_S2048x512_o1920_0_S128x512 _ _,
        piece_ok arg6 harg6 arg7 harg7 x3 x4 14 1792 1024 rfl _ _ inb_S2048x2048_S128x512_1792_1024 slices_S2048x512_o1792_0_S128x512 _ _,
        piece_ok arg6 harg6 arg7 harg7 x3 x4 13 1664 1024 rfl _ _ inb_S2048x2048_S128x512_1664_1024 slices_S2048x512_o1664_0_S128x512 _ _,
        piece_ok arg6 harg6 arg7 harg7 x3 x4 12 1536 1024 rfl _ _ inb_S2048x2048_S128x512_1536_1024 slices_S2048x512_o1536_0_S128x512 _ _,
        piece_ok arg6 harg6 arg7 harg7 x3 x4 11 1408 1024 rfl _ _ inb_S2048x2048_S128x512_1408_1024 slices_S2048x512_o1408_0_S128x512 _ _,
        piece_ok arg6 harg6 arg7 harg7 x3 x4 10 1280 1024 rfl _ _ inb_S2048x2048_S128x512_1280_1024 slices_S2048x512_o1280_0_S128x512 _ _,
        piece_ok arg6 harg6 arg7 harg7 x3 x4 9 1152 1024 rfl _ _ inb_S2048x2048_S128x512_1152_1024 slices_S2048x512_o1152_0_S128x512 _ _,
        piece_ok arg6 harg6 arg7 harg7 x3 x4 8 1024 1024 rfl _ _ inb_S2048x2048_S128x512_1024_1024 slices_S2048x512_o1024_0_S128x512 _ _,
        piece_ok arg6 harg6 arg7 harg7 x3 x4 7 896 1024 rfl _ _ inb_S2048x2048_S128x512_896_1024 slices_S2048x512_o896_0_S128x512 _ _,
        piece_ok arg6 harg6 arg7 harg7 x3 x4 6 768 1024 rfl _ _ inb_S2048x2048_S128x512_768_1024 slices_S2048x512_o768_0_S128x512 _ _,
        piece_ok arg6 harg6 arg7 harg7 x3 x4 5 640 1024 rfl _ _ inb_S2048x2048_S128x512_640_1024 slices_S2048x512_o640_0_S128x512 _ _,
        piece_ok arg6 harg6 arg7 harg7 x3 x4 4 512 1024 rfl _ _ inb_S2048x2048_S128x512_512_1024 slices_S2048x512_o512_0_S128x512 _ _,
        piece_ok arg6 harg6 arg7 harg7 x3 x4 3 384 1024 rfl _ _ inb_S2048x2048_S128x512_384_1024 slices_S2048x512_o384_0_S128x512 _ _,
        piece_ok arg6 harg6 arg7 harg7 x3 x4 2 256 1024 rfl _ _ inb_S2048x2048_S128x512_256_1024 slices_S2048x512_o256_0_S128x512 _ _,
        piece_ok arg6 harg6 arg7 harg7 x3 x4 1 128 1024 rfl _ _ inb_S2048x2048_S128x512_128_1024 slices_S2048x512_o128_0_S128x512 _ _,
        piece_ok arg6 harg6 arg7 harg7 x3 x4 0 0 1024 rfl _ _ inb_S2048x2048_S128x512_0_1024 slices_S2048x512_o0_0_S128x512 _ _,
        piece_ok arg6 harg6 arg7 harg7 x3 x4 15 1920 512 rfl _ _ inb_S2048x2048_S128x512_1920_512 slices_S2048x512_o1920_0_S128x512 _ _,
        piece_ok arg6 harg6 arg7 harg7 x3 x4 14 1792 512 rfl _ _ inb_S2048x2048_S128x512_1792_512 slices_S2048x512_o1792_0_S128x512 _ _,
        piece_ok arg6 harg6 arg7 harg7 x3 x4 13 1664 512 rfl _ _ inb_S2048x2048_S128x512_1664_512 slices_S2048x512_o1664_0_S128x512 _ _,
        piece_ok arg6 harg6 arg7 harg7 x3 x4 12 1536 512 rfl _ _ inb_S2048x2048_S128x512_1536_512 slices_S2048x512_o1536_0_S128x512 _ _,
        piece_ok arg6 harg6 arg7 harg7 x3 x4 11 1408 512 rfl _ _ inb_S2048x2048_S128x512_1408_512 slices_S2048x512_o1408_0_S128x512 _ _,
        piece_ok arg6 harg6 arg7 harg7 x3 x4 10 1280 512 rfl _ _ inb_S2048x2048_S128x512_1280_512 slices_S2048x512_o1280_0_S128x512 _ _,
        piece_ok arg6 harg6 arg7 harg7 x3 x4 9 1152 512 rfl _ _ inb_S2048x2048_S128x512_1152_512 slices_S2048x512_o1152_0_S128x512 _ _,
        piece_ok arg6 harg6 arg7 harg7 x3 x4 8 1024 512 rfl _ _ inb_S2048x2048_S128x512_1024_512 slices_S2048x512_o1024_0_S128x512 _ _,
        piece_ok arg6 harg6 arg7 harg7 x3 x4 7 896 512 rfl _ _ inb_S2048x2048_S128x512_896_512 slices_S2048x512_o896_0_S128x512 _ _,
        piece_ok arg6 harg6 arg7 harg7 x3 x4 6 768 512 rfl _ _ inb_S2048x2048_S128x512_768_512 slices_S2048x512_o768_0_S128x512 _ _,
        piece_ok arg6 harg6 arg7 harg7 x3 x4 5 640 512 rfl _ _ inb_S2048x2048_S128x512_640_512 slices_S2048x512_o640_0_S128x512 _ _,
        piece_ok arg6 harg6 arg7 harg7 x3 x4 4 512 512 rfl _ _ inb_S2048x2048_S128x512_512_512 slices_S2048x512_o512_0_S128x512 _ _,
        piece_ok arg6 harg6 arg7 harg7 x3 x4 3 384 512 rfl _ _ inb_S2048x2048_S128x512_384_512 slices_S2048x512_o384_0_S128x512 _ _,
        piece_ok arg6 harg6 arg7 harg7 x3 x4 2 256 512 rfl _ _ inb_S2048x2048_S128x512_256_512 slices_S2048x512_o256_0_S128x512 _ _,
        piece_ok arg6 harg6 arg7 harg7 x3 x4 1 128 512 rfl _ _ inb_S2048x2048_S128x512_128_512 slices_S2048x512_o128_0_S128x512 _ _,
        piece_ok arg6 harg6 arg7 harg7 x3 x4 0 0 512 rfl _ _ inb_S2048x2048_S128x512_0_512 slices_S2048x512_o0_0_S128x512 _ _,
        piece_ok arg6 harg6 arg7 harg7 x3 x4 15 1920 0 rfl _ _ inb_S2048x2048_S128x512_1920_0 slices_S2048x512_o1920_0_S128x512 _ _,
        piece_ok arg6 harg6 arg7 harg7 x3 x4 14 1792 0 rfl _ _ inb_S2048x2048_S128x512_1792_0 slices_S2048x512_o1792_0_S128x512 _ _,
        piece_ok arg6 harg6 arg7 harg7 x3 x4 13 1664 0 rfl _ _ inb_S2048x2048_S128x512_1664_0 slices_S2048x512_o1664_0_S128x512 _ _,
        piece_ok arg6 harg6 arg7 harg7 x3 x4 12 1536 0 rfl _ _ inb_S2048x2048_S128x512_1536_0 slices_S2048x512_o1536_0_S128x512 _ _,
        piece_ok arg6 harg6 arg7 harg7 x3 x4 11 1408 0 rfl _ _ inb_S2048x2048_S128x512_1408_0 slices_S2048x512_o1408_0_S128x512 _ _,
        piece_ok arg6 harg6 arg7 harg7 x3 x4 10 1280 0 rfl _ _ inb_S2048x2048_S128x512_1280_0 slices_S2048x512_o1280_0_S128x512 _ _,
        piece_ok arg6 harg6 arg7 harg7 x3 x4 9 1152 0 rfl _ _ inb_S2048x2048_S128x512_1152_0 slices_S2048x512_o1152_0_S128x512 _ _,
        piece_ok arg6 harg6 arg7 harg7 x3 x4 8 1024 0 rfl _ _ inb_S2048x2048_S128x512_1024_0 slices_S2048x512_o1024_0_S128x512 _ _,
        piece_ok arg6 harg6 arg7 harg7 x3 x4 7 896 0 rfl _ _ inb_S2048x2048_S128x512_896_0 slices_S2048x512_o896_0_S128x512 _ _,
        piece_ok arg6 harg6 arg7 harg7 x3 x4 6 768 0 rfl _ _ inb_S2048x2048_S128x512_768_0 slices_S2048x512_o768_0_S128x512 _ _,
        piece_ok arg6 harg6 arg7 harg7 x3 x4 5 640 0 rfl _ _ inb_S2048x2048_S128x512_640_0 slices_S2048x512_o640_0_S128x512 _ _,
        piece_ok arg6 harg6 arg7 harg7 x3 x4 4 512 0 rfl _ _ inb_S2048x2048_S128x512_512_0 slices_S2048x512_o512_0_S128x512 _ _,
        piece_ok arg6 harg6 arg7 harg7 x3 x4 3 384 0 rfl _ _ inb_S2048x2048_S128x512_384_0 slices_S2048x512_o384_0_S128x512 _ _,
        piece_ok arg6 harg6 arg7 harg7 x3 x4 2 256 0 rfl _ _ inb_S2048x2048_S128x512_256_0 slices_S2048x512_o256_0_S128x512 _ _,
        piece_ok arg6 harg6 arg7 harg7 x3 x4 1 128 0 rfl _ _ inb_S2048x2048_S128x512_128_0 slices_S2048x512_o128_0_S128x512 _ _,
        piece_ok arg6 harg6 arg7 harg7 x3 x4 0 0 0 rfl _ _ inb_S2048x2048_S128x512_0_0 slices_S2048x512_o0_0_S128x512 _ _,
        trivial⟩
    · exact View.cover_of_tiledL _ ![128, 512] (by sl_kernel_rfl)
  isplitl [Hb]; · iexact Hb
  isplitl [Hc]; · iexact Hc
  isplitl [Hd HsP HsR]
  · isplitl [Hd]; · iexact Hd
    isplitl [HsP]; · iexact HsP
    iexact HsR
  iexact HO

end Cert.KernelIdeal.Hand

end
-- ==== Proof.KernelIdeal.Frame.lean ====
/- The frame of the kernel: what the body leaves at every grid point, the body's obligation to the pipeline, the launch, and that
   the argument arrays end unchanged with every semaphore at zero. The two buffers that the body fills at a column block's first
   point and reads at the twelve points of the block are carried from point to point with their contents. -/
module

public import proofs.«01_k».proof.Proof.KernelIdeal.Fill
public import proofs.«01_k».proof.Proof.KernelIdeal.Parts
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The window whose place the table decides -/

theorem ok_of_ix (ix : Fin 2 → ℕ) (i : grid0.Coords) (e : ix = cc0_transform_1 i) :
    ∃ h : (∀ a, (ix a + 1) * S1024x512.size a ≤ S12288x512.size a),
      EltTy.bits .bf16 = 32 ∨ (Rect.block (s := S12288x512) S1024x512.size ix h).WholeWords (EltTy.packing .bf16) := by
  subst e; exact ⟨hinb0_1 i, hwx0_1 i⟩

/-- Whatever the table says, the window's block is in the array: it is the row block's, or the first. -/
theorem ok_all : Ok m := by
  intro i
  have e : ∃ i' : grid0.Coords, cc0_transform_2 inb_S136_S1_128 numel1_S1 (tbl m) i = cc0_transform_1 i' := by
    have key : ∀ b : BitVec 1, ∃ i' : grid0.Coords, ![(Scalar.select b (BitVec.ofNat 32 (i 1).val) 0#32).toNat, (0#32).toNat] = cc0_transform_1 i' := by
      intro b
      unfold Scalar.select
      by_cases h : b = 1
      · exact ⟨i, by rw [if_pos h]; rfl⟩
      · exact ⟨fun a => ⟨0, Nat.lt_of_le_of_lt (Nat.zero_le _) (i a).isLt⟩, by rw [if_neg h]; rfl⟩
    exact key _
  obtain ⟨i', e⟩ := e
  exact ok_of_ix _ i' e

/-! ## The pipeline's proof data -/

/-- The first grid point of the column block that point `n` is in. -/
def colPt (n : ℕ) : Fin grid0.N := ⟨n / 12 % 4 * 12, by rw [N_0]; omega⟩

theorem colPt_first (t : Fin grid0.N) (h : t.val % 12 = 0) : colPt t.val = t := by
  have ht : t.val < 48 := Nat.lt_of_lt_of_eq t.isLt N_0
  refine Fin.ext ?_
  show t.val / 12 % 4 * 12 = t.val; omega

theorem colPt_next (n : ℕ) (h : ¬ n % 12 = 0) : colPt (n - 1) = colPt n := by
  refine Fin.ext ?_
  show (n - 1) / 12 % 4 * 12 = n / 12 % 4 * 12
  have : (n - 1) / 12 = n / 12 := by omega
  rw [this]

/-- The weight tile of point `n`'s column block. -/
def wcol (hO : Ok m) (c : Dev nD) (n : ℕ) : Vec F S2048x2048 .bf16 := wfull (iblk m hO c 3 (colPt n)) (iblk m hO c 4 (colPt n))
/-- The page rows of point `n`'s column block. -/
def bcol (hT : PagesOk (tbl m 0)) (c : Dev nD) (n : ℕ) : Vec F S1024x2048 .bf16 := pageRows (grid0.coords (colPt n)) hT (V m c main_arg6)

/-- The two buffers before point `n`: anything at the start, the column block's tile and rows afterwards. -/
def scr (hO : Ok m) (hT : PagesOk (tbl m 0)) (c : Dev nD) (n : ℕ) : sProp 𝕄 :=
  if n = 0 then iprop((∃ d, hbPt0 c scM0_0 d) ∗ (∃ d, hbPt0 c scM0_1 d))
  else iprop(hbPt0 c scM0_0 (wcol m hO c (n - 1)) ∗ hbPt0 c scM0_1 (bcol m hT c (n - 1)))

theorem scr_any (hO : Ok m) (hT : PagesOk (tbl m 0)) (c : Dev nD) (n : ℕ) :
    scr m hO hT c n ⊢ iprop((∃ d, hbPt0 c scM0_0 d) ∗ (∃ d, hbPt0 c scM0_1 d)) := by
  unfold scr
  by_cases h : n = 0
  · rw [if_pos h]
  · rw [if_neg h]; iintro ⟨A, B⟩
    isplitl [A]; · iexists _; iexact A
    iexists _; iexact B

theorem scr_succ (hO : Ok m) (hT : PagesOk (tbl m 0)) (c : Dev nD) (n : ℕ) :
    scr m hO hT c (n + 1) = iprop(hbPt0 c scM0_0 (wcol m hO c n) ∗ hbPt0 c scM0_1 (bcol m hT c n)) := by
  unfold scr; rw [if_neg (Nat.succ_ne_zero n), Nat.add_sub_cancel]

theorem scr_within (hO : Ok m) (hT : PagesOk (tbl m 0)) (c : Dev nD) (n : ℕ) (h : ¬ n % 12 = 0) :
    scr m hO hT c n = iprop(hbPt0 c scM0_0 (wcol m hO c n) ∗ hbPt0 c scM0_1 (bcol m hT c n)) := by
  unfold scr wcol bcol; rw [if_neg (fun e => h (by rw [e])), colPt_next n h]

/-- What a body with transfers of its own works under, the two buffers' contents beside. -/
def inv (hO : Ok m) (hT : PagesOk (tbl m 0)) (c : Dev nD) (n : ℕ) : sProp 𝕄 :=
  iprop(scr m hO hT c n ∗ (∃ r, prngReg c r) ∗ semVal ((c : Thread nD τ), SemLoc.dma 12) 0 ∗ hbPt0 c hbM0_0 (V m c main_arg6) ∗ tbPt0 c tbM0_0 (tbl m 0))

/-- The proof data: the inputs' buffers hold their blocks, and the output's buffer the block that the body computes. -/
def dats (hO : Ok m) (hT : PagesOk (tbl m 0)) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk (F := F) (tbl m 0) (iblk m hO c 0 t) (wcol m hO c t.val) (iblk m hO c 1 t) (iblk m hO c 2 t) (bcol m hT c t.val)
  Φ t := inv m hO hT c t.val
  q _ := fullShare
  owed _ := 0

theorem A_eq (hO : Ok m) (hT : PagesOk (tbl m 0)) (c : Dev nD) (w : Fin (cfgM m hO).W) : (dats m hO hT 0 c).A w = V m c (Pipeline.arrRef spec0 w) := by
  dsimp only [dats]

theorem after0_0 (hO : Ok m) (hT : PagesOk (tbl m 0)) (c : Dev nD) (t : Fin (cfgM m hO).N) : (dats m hO hT 0 c).after 0 t = iblk m hO c 0 t := by dsimp only [dats]; try rfl
theorem after0_1 (hO : Ok m) (hT : PagesOk (tbl m 0)) (c : Dev nD) (t : Fin (cfgM m hO).N) : (dats m hO hT 0 c).after 1 t = iblk m hO c 1 t := by dsimp only [dats]; try rfl
theorem after0_2 (hO : Ok m) (hT : PagesOk (tbl m 0)) (c : Dev nD) (t : Fin (cfgM m hO).N) : (dats m hO hT 0 c).after 2 t = iblk m hO c 2 t := by dsimp only [dats]; try rfl
theorem after0_3 (hO : Ok m) (hT : PagesOk (tbl m 0)) (c : Dev nD) (t : Fin (cfgM m hO).N) : (dats m hO hT 0 c).after 3 t = iblk m hO c 3 t := by dsimp only [dats]; try rfl
theorem after0_4 (hO : Ok m) (hT : PagesOk (tbl m 0)) (c : Dev nD) (t : Fin (cfgM m hO).N) : (dats m hO hT 0 c).after 4 t = iblk m hO c 4 t := by dsimp only [dats]; try rfl
theorem after0_5 (hO : Ok m) (hT : PagesOk (tbl m 0)) (c : Dev nD) (t : Fin (cfgM m hO).N) : (dats m hO hT 0 c).after 5 t
    = outBlk (F := F) (tbl m 0) (iblk m hO c 0 t) (wcol m hO c t.val) (iblk m hO c 1 t) (iblk m hO c 2 t) (bcol m hT c t.val) := by dsimp only [dats]; try rfl

theorem before0_0 (hO : Ok m) (hT : PagesOk (tbl m 0)) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : PagesOk (tbl m 0)) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : PagesOk (tbl m 0)) (c : Dev nD) (t : Fin (cfgM m hO).N) (d) : (dats m hO hT 0 c).before 2 t d = iblk m hO c 2 t :=
  before0_2_of m hO (dats m hO hT 0 c) (A_eq m hO hT c 2) (after0_2 m hO hT c) t d
theorem before0_3 (hO : Ok m) (hT : PagesOk (tbl m 0)) (c : Dev nD) (t : Fin (cfgM m hO).N) (d) : (dats m hO hT 0 c).before 3 t d = iblk m hO c 3 t :=
  before0_3_of m hO (dats m hO hT 0 c) (A_eq m hO hT c 3) (after0_3 m hO hT c) t d
theorem before0_4 (hO : Ok m) (hT : PagesOk (tbl m 0)) (c : Dev nD) (t : Fin (cfgM m hO).N) (d) : (dats m hO hT 0 c).before 4 t d = iblk m hO c 4 t :=
  before0_4_of m hO (dats m hO hT 0 c) (A_eq m hO hT c 4) (after0_4 m hO hT c) t d

/-! ## The body obligation, at a generic point -/

/-- What the body is called with at point `t`, -/
def bodyPre (hO : Ok m) (hT : PagesOk (tbl m 0)) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d))
    ∗ (∃ d, owns (c : Thread nD τ) (ms0_4 m hO t) fullShare ((dats m hO hT 0 c).before 4 t d))
    ∗ (∃ d, owns (c : Thread nD τ) (ms0_5 m hO t) fullShare ((dats m hO hT 0 c).before 5 t d)))

/-- and what it returns. -/
def bodyPost (hO : Ok m) (hT : PagesOk (tbl m 0)) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t)
    ∗ owns (c : Thread nD τ) (ms0_4 m hO t) fullShare ((dats m hO hT 0 c).after 4 t)
    ∗ owns (c : Thread nD τ) (ms0_5 m hO t) fullShare ((dats m hO hT 0 c).after 5 t))

set_option maxHeartbeats 4000000 in
theorem sound_body [∀ e, Nonempty (Elt F e)] (hO : Ok m) (hT : PagesOk (tbl m 0)) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2, before0_3, before0_4]
  rw [after0_0, after0_1, after0_2, after0_3, after0_4, after0_5]
  rw [show (dats m hO hT 0 c).Φ t.castSucc = inv m hO hT c t.val from rfl, show (dats m hO hT 0 c).Φ t.succ = inv m hO hT c (t.val + 1) from rfl]
  unfold Dat.owesAt Pipeline.owesWithin
  rw [show (dats m hO hT 0 c).owed t.castSucc = 0 from rfl, show (dats m hO hT 0 c).owed t.succ = 0 from rfl]
  unfold inv
  rw [scr_succ, cc0_main_eq_skeleton]
  by_cases h0 : t.val % 12 = 0
  · have hc := (hcond0_0 t).mpr h0
    have ew : wcol m hO c t.val = wfull (iblk m hO c 3 t) (iblk m hO c 4 t) := by
      unfold wcol; rw [colPt_first t h0]
    have eb : bcol m hT c t.val = pageRows (grid0.coords t) hT (V m c main_arg6) := by unfold bcol; rw [colPt_first t h0]
    refine BIBase.Entails.trans ?_ (Entails.of_eq (congrArg (fun p => wp frame (wpE (defs₀ (F := F)) Variants.none (c : Thread nD τ) none) Set.univ p _) (main_pos (F := F) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) hbM0_0 (Memref.isWhole_whole _) (ms0_5 m hO t) (hs0_5 m hO t) scM0_0 (Memref.isWhole_whole _) scM0_1 (Memref.isWhole_whole _) cc0_scratch2 hc)).symm)
    rw [wp_bind]
    iintro ⟨⟨HS, Hg, Hsem, Hp, HT⟩, ⟨%W, -, HW⟩, ⟨%d0, H0⟩, ⟨%d1, H1⟩, ⟨%d2, H2⟩, ⟨%d3, H3⟩, ⟨%d4, H4⟩, ⟨%d5, H5⟩⟩
    ihave HS' := (scr_any m hO hT c t.val) $$ HS
    icases HS' with ⟨HS0, HS1⟩
    iapply (fill_run c (grid0.coords t) hT (V m c main_arg6) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 3 t) (iblk m hO c 4 t) _ hc W _)
    isplitl [HT]; · iexact HT
    isplitl [H3]; · iexact H3
    isplitl [H4]; · iexact H4
    isplitl [HS0]; · iexact HS0
    isplitl [HS1]; · iexact HS1
    isplitl [Hsem]; · iexact Hsem
    isplitl [Hp]; · iexact Hp
    isplitl [HW]; · iexact HW
    iintro ⟨HT, H3, H4, HS0, HS1, Hsem, Hp, ⟨%W', HW⟩⟩
    iapply (tail_run c (grid0.coords t) (T := tbl m 0) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 0 t) (wcol m hO c t.val) (iblk m hO c 1 t) (iblk m hO c 2 t) (bcol m hT c t.val) _)
    rw [← ew, ← eb]
    isplitl [HT]; · iexact HT
    isplitl [H0]; · iexact H0
    isplitl [H1]; · iexact H1
    isplitl [H2]; · iexact H2
    isplitl [HS0]; · iexact HS0
    isplitl [HS1]; · iexact HS1
    isplitl [H5]; · iexists _; iexact H5
    iintro ⟨HT, H0, H1, H2, HS0, HS1, H5⟩
    isplitl [HS0 HS1 Hg Hsem Hp HT]
    · isplitl [HS0 HS1]
      · isplitl [HS0]; · iexact HS0
        iexact HS1
      isplitl [Hg]; · iexact Hg
      isplitl [Hsem]; · iexact Hsem
      isplitl [Hp]; · iexact Hp
      iexact HT
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · rw [scr_within m hO hT c t.val h0]
    refine BIBase.Entails.trans ?_ (Entails.of_eq (congrArg (fun p => wp frame (wpE (defs₀ (F := F)) Variants.none (c : Thread nD τ) none) Set.univ p _) (main_neg (F := F) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) hbM0_0 (Memref.isWhole_whole _) (ms0_5 m hO t) (hs0_5 m hO t) scM0_0 (Memref.isWhole_whole _) scM0_1 (Memref.isWhole_whole _) cc0_scratch2 (fun h => h0 ((hcond0_0 t).mp h)))).symm)
    iintro ⟨⟨⟨HS0, HS1⟩, Hg, Hsem, Hp, HT⟩, ⟨%W, -, HW⟩, ⟨%d0, H0⟩, ⟨%d1, H1⟩, ⟨%d2, H2⟩, ⟨%d3, H3⟩, ⟨%d4, H4⟩, ⟨%d5, H5⟩⟩
    iapply (tail_run c (grid0.coords t) (T := tbl m 0) (ms0_0 m hO t) (hs0_0 m hO t) (ms0_1 m hO t) (hs0_1 m hO t) (ms0_2 m hO t) (hs0_2 m hO t)
      (ms0_3 m hO t) (hs0_3 m hO t) (ms0_4 m hO t) (hs0_4 m hO t) (ms0_5 m hO t) (hs0_5 m hO t) (iblk m hO c 0 t) (wcol m hO c t.val) (iblk m hO c 1 t) (iblk m hO c 2 t) (bcol m hT c t.val) _)
    isplitl [HT]; · iexact HT
    isplitl [H0]; · iexact H0
    isplitl [H1]; · iexact H1
    isplitl [H2]; · iexact H2
    isplitl [HS0]; · iexact HS0
    isplitl [HS1]; · iexact HS1
    isplitl [H5]; · iexists _; iexact H5
    iintro ⟨HT, H0, H1, H2, HS0, HS1, H5⟩
    isplitl [HS0 HS1 Hg Hsem Hp HT]
    · isplitl [HS0 HS1]
      · isplitl [HS0]; · iexact HS0
        iexact HS1
      isplitl [Hg]; · iexact Hg
      isplitl [Hsem]; · iexact Hsem
      isplitl [Hp]; · iexact Hp
      iexact HT
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is written back at every point, so that its buffer is handed back at what the body leaves, whether or not the
    configuration counts the point as one that may store nothing. -/
theorem leaves_out (hO : Ok m) (hT : PagesOk (tbl m 0)) (c : Dev nD) (t : Fin (cfgM m hO).N) (b : Bool) :
    owns (c : Thread nD τ) (ms0_5 m hO t) fullShare ((dats m hO hT 0 c).after 5 t)
      ⊢ (match b with
        | true => (match ((cfgM m hO).win 5).flush t with
          | false => iprop(∃ d, owns (c : Thread nD τ) (((cfgM m hO).win 5).stage ((cfgM m hO).slots t 5)) fullShare ((dats m hO hT 0 c).before 5 t d))
          | true => owns (c : Thread nD τ) (((cfgM m hO).win 5).stage ((cfgM m hO).slots t 5)) fullShare ((dats m hO hT 0 c).after 5 t))
        | false => owns (c : Thread nD τ) (((cfgM m hO).win 5).stage ((cfgM m hO).slots t 5)) fullShare ((dats m hO hT 0 c).after 5 t) : sProp 𝕄) := by
  rw [flush0_5]
  cases b <;> exact .rfl

theorem body_obligation [∀ e, Nonempty (Elt F e)] (hO : Ok m) (hT : PagesOk (tbl m 0)) (c : Dev nD) :
    BodyObligation (dats (F := F) m hO hT 0 c) (defs₀ (F := F)) Variants.none () Set.univ := fun t => by
  rw [bigSep_W0, bigSep_W0, defs₀_row m hO]
  refine triple_restated (sound_body m hO hT c t) rfl .rfl fun _ => ?_
  exact sep_mono .rfl (sep_mono .rfl (sep_mono .rfl (sep_mono .rfl (sep_mono .rfl (sep_mono .rfl (sep_mono .rfl (leaves_out m hO hT c t _)))))))

/-! ## The run and the frame -/

theorem inv_in (hO : Ok m) (hT : PagesOk (tbl m 0)) (c : Dev nD) :
    iprop(Pipeline.ΦD osem0 spec0 H0 (V m) c ∗ Pipeline.ΦT pre0 (tbl m) c) ⊢ (dats m hO hT 0 c).Φ 0 := by
  rw [show (dats m hO hT 0 c).Φ 0 = inv m hO hT c 0 from rfl, PhiD0_eq, PhiT0_eq]
  unfold inv scr
  rw [if_pos rfl]
  simp only [scM0_0, scM0_1, owns_whole]
  iintro ⟨⟨⟨A, B⟩, C, D, E⟩, G⟩
  isplitl [A B]
  · isplitl [A]; · iexact A
    iexact B
  isplitl [C]; · iexact C
  isplitl [D]; · iexact D
  isplitl [E]; · iexact E
  iexact G

theorem inv_out (hO : Ok m) (hT : PagesOk (tbl m 0)) (c : Dev nD) (n : ℕ) :
    inv m hO hT c n ⊢ Pipeline.ΦD osem0 spec0 H0 (V m) c := by
  rw [PhiD0_eq]
  unfold inv
  iintro ⟨S, C, D, E, -⟩
  ihave S' := (scr_any m hO hT c n) $$ S
  icases S' with ⟨A, B⟩
  simp only [scM0_0, scM0_1, owns_whole]
  isplitl [A B]
  · isplitl [A]; · iexact A
    iexact B
  isplitl [C]; · iexact C
  isplitl [D]; · iexact D
  iexact E

set_option backward.isDefEq.respectTransparency.types false in
/-- The launch: every weakly fair execution ends, with the arrays as the proof data say and every semaphore at zero. -/
theorem run_main_quiescent [∀ e, Nonempty (Elt F e)] (hO : Ok m) (hT : PagesOk (tbl m 0)) :
    θ_run defs (onTc (τ := τ) (main (F := F))) (s₀ m ρ) (fun r => (Pipeline.FramePost (Pipeline.pin pcfgs fun _ => adm m hO) (dats m hO hT) 0 (V m)) r ∧ r.2.sem = fun _ => 0) :=
  Pipeline.θ_run_frameP_dma (Q' := _) pcfgs (fun _ => adm m hO) (dats m hO hT) (0 : Fin 1) launch0 osem0 defs₀ Variants.none ownSemFacts0 H0 H0_sub m ρ main
    (hbody := fun c => (body_obligation m hO hT c).loose) (hshare := fun c => (dats m hO hT 0 c).share_full fun _ => rfl)
    (howed := fun _ _ => rfl) (V := V m) (hmain := hmain m Variants.none) (hA := A_eq m hO hT) (hpf := V_pre m) (hin := inv_in m hO hT)
    (hout := fun c => inv_out m hO hT c _)

/-- The argument arrays end unchanged, and every semaphore counter at zero. -/
theorem frame [∀ e, Nonempty (Elt F e)] (hO : Ok m) (hT : PagesOk (tbl m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans rfl,
      ((h.1 c).1 0).trans (((dats m hO hT 0 c).arrAt_in 0 rfl _).trans (A_eq m hO hT c 0)),
      ((h.1 c).1 1).trans (((dats m hO hT 0 c).arrAt_in 1 rfl _).trans (A_eq m hO hT c 1)),
      ((h.1 c).1 2).trans (((dats m hO hT 0 c).arrAt_in 2 rfl _).trans (A_eq m hO hT c 2)),
      ((h.1 c).1 3).trans (((dats m hO hT 0 c).arrAt_in 3 rfl _).trans (A_eq m hO hT c 3)),
      ((h.1 c).1 4).trans (((dats m hO hT 0 c).arrAt_in 4 rfl _).trans (A_eq m hO hT c 4)),
      ((h.1 c).2 main_arg6 (by decide : main_arg6 ∈ Pipeline.restRefs sig spec0)).trans rfl⟩, h.2⟩)
    (run_main_quiescent m ρ hO hT)

end Cert.KernelIdeal.Hand

end
-- ==== Proof.Spec.lean ====
/- The result in plain terms: the dequantised base product plus the product with the pool rows that the page table names. -/
module

public import Idealize.ShloMosaic.PureOps.Ideal.Laws
public import Idealize.ShloMosaic.Lib.ValueIdxCore

@[expose] public section

noncomputable section

namespace Cert.Spec

open Idealize.ShloMosaic Idealize.ShloMosaic.ValueIdx
open scoped BigOperators

/-- A matrix. -/
abbrev Mat (a b : ℕ) (α : Type) : Type := (⟨2, ![a, b]⟩ : Shape).Idx → α
/-- A table of words. -/
abbrev Tab (a : ℕ) : Type := (⟨1, ![a]⟩ : Shape).Idx → BitVec 32

/-- The index of a table's word. -/
abbrev at1 {n : ℕ} (k : Fin n) : (⟨1, ![n]⟩ : Shape).Idx := fun a => match a with | ⟨0, _⟩ => k

/-- The signed 4-bit code at place `p` of a word: shifted up to the top, then down with the sign. -/
def nib (w : BitVec 32) (p : ℕ) : BitVec 32 :=
  IntOp.shrsi .vector (IntOp.shli .vector w (IntOp.subi 28#32 (IntOp.muli 4#32 (BitVec.ofNat 32 p)))) 28#32

/-- Element (k, j) of the dequantised weight: its code times the scale of its group of 128 rows. -/
def weight (W : Mat 256 8192 (BitVec 32)) (S : Mat 16 8192 EReal) (k : Fin 2048) (j : Fin 8192) : EReal :=
  (FloatOps.sitofp (F := Ideal) .bf16 (nib (W (ix2 ⟨k.val / 8, by omega⟩ j)) (k.val % 8)) : EReal) * S (ix2 ⟨k.val / 128, by omega⟩ j)

/-- The pool row of slot `s`: row `s % 8` of the page that word `s / 8` of the table names (the last row if there is no such page). -/
def poolRow (T : Tab 136) (s : Fin 1024) : Fin 1000 :=
  ⟨min ((T (at1 ⟨s.val / 8, by omega⟩)).toNat * 8 + s.val % 8) 999, by omega⟩

/-- Element (r, j) of the result. The last 512 slots count only if more than two windows are live. -/
def out (T : Tab 136) (x : Mat 12288 2048 EReal) (h hm : Mat 12288 512 EReal) (W : Mat 256 8192 (BitVec 32)) (S : Mat 16 8192 EReal)
    (P : Mat 1000 8192 EReal) (r : Fin 12288) (j : Fin 8192) : EReal :=
  (∑ k : Fin 2048, x (ix2 r k) * weight W S k j)
    + ((∑ k : Fin 512, h (ix2 r k) * P (ix2 (poolRow T ⟨k.val, by omega⟩) j))
      + if (T (at1 ⟨128, by decide⟩)).toInt ≤ 2 then 0 else ∑ k : Fin 512, hm (ix2 r k) * P (ix2 (poolRow T ⟨512 + k.val, by omega⟩) j))

end Cert.Spec

end
-- ==== Proof.KernelIdeal.Blocks.lean ====
/- The windows' blocks in the arrays' own coordinates. Grid point `t` is column tile `t / 12` and row tile `t % 12`. -/
module

public import proofs.«01_k».proof.Proof.KernelIdeal.Frame
public import proofs.«01_k».proof.Proof.Spec

@[expose] public section

noncomputable section

namespace Cert.KernelIdeal.Hand

open Cert.KernelIdeal.Gen
open Idealize.ShloMosaic Idealize.ShloMosaic.TcCoe

variable {F : FTy → Type} [FloatOps F]
variable (m : (ℓ : Loc nD τ sig) → Buf (Elt F) ℓ) (hO : Ok m) (c : Dev nD)

theorem coords_val : ∀ t : Fin grid0.N, ((grid0.coords t) 0).val = t.val / 12 ∧ ((grid0.coords t) 1).val = t.val % 12 := by decide +kernel
theorem ix0_val : ∀ t : Fin grid0.N, cc0_transform_0 (grid0.coords t) 0 = t.val % 12 ∧ cc0_transform_0 (grid0.coords t) 1 = 0 := by decide +kernel
theorem ix1_val : ∀ t : Fin grid0.N, cc0_transform_1 (grid0.coords t) 0 = t.val % 12 ∧ cc0_transform_1 (grid0.coords t) 1 = 0 := by decide +kernel
theorem ix3_val : ∀ t : Fin grid0.N, cc0_transform_3 (grid0.coords t) 0 = 0 ∧ cc0_transform_3 (grid0.coords t) 1 = t.val / 12 := by decide +kernel
theorem ix4_val : ∀ t : Fin grid0.N, cc0_transform_4 (grid0.coords t) 0 = 0 ∧ cc0_transform_4 (grid0.coords t) 1 = t.val / 12 := by decide +kernel
theorem ix6_val : ∀ t : Fin grid0.N, cc0_transform_6 (grid0.coords t) 0 = t.val % 12 ∧ cc0_transform_6 (grid0.coords t) 1 = t.val / 12 := by decide +kernel

theorem lt48 (t : Fin grid0.N) : t.val < 48 := lt_of_lt_of_eq t.isLt N_0

/-- Row `y` of row tile `t % 12`. -/
abbrev tileRow (t : Fin grid0.N) (y : Fin 1024) : Fin 12288 := ⟨t.val % 12 * 1024 + y.val, by omega⟩
/-- Column `y` of column tile `t / 12`. -/
abbrev tileCol (t : Fin grid0.N) (y : Fin 2048) : Fin 8192 := ⟨t.val / 12 * 2048 + y.val, by have := lt48 t; omega⟩

theorem iblk0_apply (t : Fin grid0.N) (y : S1024x2048.Idx) :
    iblk m hO c 0 t y = m ((c : Thread nD τ).loc main_arg1) (ValueIdx.ix2 (tileRow t (y 0)) (y 1)) := by
  obtain ⟨e0, e1⟩ := ix0_val t
  show V m c main_arg1 ((((cfgM m hO).win 0).blk t).view.emb y) = _
  refine congrArg (V m c main_arg1) (funext fun a => Fin.ext ?_)
  match a with
  | ⟨0, _⟩ => show cc0_transform_0 (grid0.coords t) 0 * 1024 + 1 * (y 0).val = t.val % 12 * 1024 + (y 0).val; rw [e0]; omega
  | ⟨1, _⟩ => show cc0_transform_0 (grid0.coords t) 1 * 2048 + 1 * (y 1).val = (y 1).val; rw [e1]; omega

theorem iblk1_apply (t : Fin grid0.N) (y : S1024x512.Idx) :
    iblk m hO c 1 t y = m ((c : Thread nD τ).loc main_arg2) (ValueIdx.ix2 (tileRow t (y 0)) (y 1)) := by
  obtain ⟨e0, e1⟩ := ix1_val t
  show V m c main_arg2 ((((cfgM m hO).win 1).blk t).view.emb y) = _
  refine congrArg (V m c main_arg2) (funext fun a => Fin.ext ?_)
  match a with
  | ⟨0, _⟩ => show cc0_transform_1 (grid0.coords t) 0 * 1024 + 1 * (y 0).val = t.val % 12 * 1024 + (y 0).val; rw [e0]; omega
  | ⟨1, _⟩ => show cc0_transform_1 (grid0.coords t) 1 * 512 + 1 * (y 1).val = (y 1).val; rw [e1]; omega

theorem iblk3_apply (t : Fin grid0.N) (y : S256x2048.Idx) :
    iblk m hO c 3 t y = m ((c : Thread nD τ).loc main_arg4) (ValueIdx.ix2 (y 0) (tileCol t (y 1))) := by
  obtain ⟨e0, e1⟩ := ix3_val t
  show V m c main_arg4 ((((cfgM m hO).win 3).blk t).view.emb y) = _
  refine congrArg (V m c main_arg4) (funext fun a => Fin.ext ?_)
  match a with
  | ⟨0, _⟩ => show cc0_transform_3 (grid0.coords t) 0 * 256 + 1 * (y 0).val = (y 0).val; rw [e0]; omega
  | ⟨1, _⟩ => show cc0_transform_3 (grid0.coords t) 1 * 2048 + 1 * (y 1).val = t.val / 12 * 2048 + (y 1).val; rw [e1]; omega

theorem iblk4_apply (t : Fin grid0.N) (y : S16x2048.Idx) :
    iblk m hO c 4 t y = m ((c : Thread nD τ).loc main_arg5) (ValueIdx.ix2 (y 0) (tileCol t (y 1))) := by
  obtain ⟨e0, e1⟩ := ix4_val t
  show V m c main_arg5 ((((cfgM m hO).win 4).blk t).view.emb y) = _
  refine congrArg (V m c main_arg5) (funext fun a => Fin.ext ?_)
  match a with
  | ⟨0, _⟩ => show cc0_transform_4 (grid0.coords t) 0 * 16 + 1 * (y 0).val = (y 0).val; rw [e0]; omega
  | ⟨1, _⟩ => show cc0_transform_4 (grid0.coords t) 1 * 2048 + 1 * (y 1).val = t.val / 12 * 2048 + (y 1).val; rw [e1]; omega

/-- Where the result's block lies. -/
theorem emb5 (t : Fin grid0.N) (y : S1024x2048.Idx) : (((cfgM m hO).win 5).blk t).view.emb y = ValueIdx.ix2 (tileRow t (y 0)) (tileCol t (y 1)) := by
  obtain ⟨e0, e1⟩ := ix6_val t
  refine funext fun a => Fin.ext ?_
  match a with
  | ⟨0, _⟩ => show cc0_transform_6 (grid0.coords t) 0 * 1024 + 1 * (y 0).val = t.val % 12 * 1024 + (y 0).val; rw [e0]; omega
  | ⟨1, _⟩ => show cc0_transform_6 (grid0.coords t) 1 * 2048 + 1 * (y 1).val = t.val / 12 * 2048 + (y 1).val; rw [e1]; omega

/-- With more than two live windows, the third window follows the row tile. -/
theorem ix2_val (t : Fin grid0.N) (h : ¬ (liveWord (tbl m 0)).toInt ≤ 2) :
    cc0_transform_2 inb_S136_S1_128 numel1_S1 (tbl m) (grid0.coords t) 0 = t.val % 12 ∧ cc0_transform_2 inb_S136_S1_128 numel1_S1 (tbl m) (grid0.coords t) 1 = 0 := by
  refine ⟨?_, rfl⟩
  have hp : (tbl m).at 0 (Rect.unit (s := S136) ![128] S1.size inb_S136_S1_128) numel1_S1 = liveWord (tbl m 0) := lw_eq (F := F) (tbl m 0)
  have hs : Scalar.cmpi .sgt (liveWord (tbl m 0)) 2#32 = 1#1 := by
    have e : Scalar.cmpi .sgt (liveWord (tbl m 0)) 2#32 = BitVec.ofBool (decide (2 < (liveWord (tbl m 0)).toInt)) := rfl
    rw [e, decide_eq_true (by omega)]; rfl
  show (Scalar.select (Scalar.cmpi .sgt ((tbl m).at 0 (Rect.unit (s := S136) ![128] S1.size inb_S136_S1_128) numel1_S1) 2#32)
    (BitVec.ofNat 32 ((grid0.coords t) 1).val) 0#32).toNat = _
  rw [hp, hs, (coords_val t).2]
  show (BitVec.ofNat 32 (t.val % 12)).toNat = _
  rw [BitVec.toNat_ofNat]
  omega

theorem iblk2_apply (h : ¬ (liveWord (tbl m 0)).toInt ≤ 2) (t : Fin grid0.N) (y : S1024x512.Idx) :
    iblk m hO c 2 t y = m ((c : Thread nD τ).loc main_arg3) (ValueIdx.ix2 (tileRow t (y 0)) (y 1)) := by
  obtain ⟨e0, e1⟩ := ix2_val m t h
  show V m c main_arg3 ((((cfgM m hO).win 2).blk t).view.emb y) = _
  refine congrArg (V m c main_arg3) (funext fun a => Fin.ext ?_)
  match a with
  | ⟨0, _⟩ =>
    show cc0_transform_2 inb_S136_S1_128 numel1_S1 (tbl m) (grid0.coords t) 0 * 1024 + 1 * (y 0).val = t.val % 12 * 1024 + (y 0).val
    rw [e0]; omega
  | ⟨1, _⟩ =>
    show cc0_transform_2 inb_S136_S1_128 numel1_S1 (tbl m) (grid0.coords t) 1 * 512 + 1 * (y 1).val = (y 1).val
    rw [e1]; omega

end Cert.KernelIdeal.Hand

end
-- ==== Proof.KernelIdeal.Value.lean ====
/- What the kernel leaves in the result array, over the extended reals. -/
module

public import proofs.«01_k».proof.Proof.KernelIdeal.Blocks
public import Idealize.ShloMosaic.Lib.MatmulPlain

@[expose] public section

noncomputable section

namespace Cert.KernelIdeal.Hand

open Cert.KernelIdeal.Gen
open Idealize.ShloMosaic Idealize.ShloMosaic.TcCoe Idealize.SL.Sem
open scoped BigOperators

/-! ## The stored values at an index -/

theorem zero_const {s : Shape} (i : s.Idx) : constant (F := Ideal) s .f32 0x00000000#32 i = (0 : EReal) := Ideal.ofBits_zero_f32

/-- Two products added up. -/
theorem pay2_apply (x : Vec Ideal S1024x2048 .bf16) (w : Vec Ideal S2048x2048 .bf16) (h : Vec Ideal S1024x512 .bf16) (b : Vec Ideal S512x2048 .bf16)
    (r : Fin 1024) (q : Fin 2048) :
    k0_pay2 (F := Ideal) x w h b (ValueIdx.ix2 r q)
      = (((∑ k : Fin 2048, x (ValueIdx.ix2 r k) * w (ValueIdx.ix2 k q)) + (∑ k : Fin 512, h (ValueIdx.ix2 r k) * b (ValueIdx.ix2 k q)) : EReal)) := by
  have e1 := Ideal.matmul_plain_apply (M := 1024) (K := 2048) (N := 2048) none (φ₁ := .bf16) (φ₂ := .bf16) x w (constant (F := Ideal) S1024x2048 .f32 0x00000000#32) r q
  have e2 := Ideal.matmul_plain_apply (M := 1024) (K := 512) (N := 2048) none (φ₁ := .bf16) (φ₂ := .bf16) h b (constant (F := Ideal) S1024x2048 .f32 0x00000000#32) r q
  rw [zero_const, zero_add] at e1 e2
  rw [← e1, ← e2]
  rfl

/-- Three products added up. -/
theorem pay3_apply (x : Vec Ideal S1024x2048 .bf16) (w : Vec Ideal S2048x512 .bf16) (h : Vec Ideal S1024x512 .bf16) (b : Vec Ideal S512x512 .bf16)
    (h' : Vec Ideal S1024x512 .bf16) (b' : Vec Ideal S512x512 .bf16) (r : Fin 1024) (q : Fin 512) :
    k0_pay3 (F := Ideal) x w h b h' b' (ValueIdx.ix2 r q)
      = (((∑ k : Fin 2048, x (ValueIdx.ix2 r k) * w (ValueIdx.ix2 k q)) + (∑ k : Fin 512, h (ValueIdx.ix2 r k) * b (ValueIdx.ix2 k q))
        + (∑ k : Fin 512, h' (ValueIdx.ix2 r k) * b' (ValueIdx.ix2 k q)) : EReal)) := by
  have e1 := Ideal.matmul_plain_apply (M := 1024) (K := 2048) (N := 512) none (φ₁ := .bf16) (φ₂ := .bf16) x w (constant (F := Ideal) S1024x512 .f32 0x00000000#32) r q
  have e2 := Ideal.matmul_plain_apply (M := 1024) (K := 512) (N := 512) none (φ₁ := .bf16) (φ₂ := .bf16) h b (constant (F := Ideal) S1024x512 .f32 0x00000000#32) r q
  have e3 := Ideal.matmul_plain_apply (M := 1024) (K := 512) (N := 512) none (φ₁ := .bf16) (φ₂ := .bf16) h' b' (constant (F := Ideal) S1024x512 .f32 0x00000000#32) r q
  rw [zero_const, zero_add] at e1 e2 e3
  rw [← e1, ← e2, ← e3]
  rfl

/-! ## Chunks of columns -/

theorem off7_val : ∀ q : Fin k0_t3_loop.trips, k0_off7 q 0 = 0 ∧ k0_off7 q 1 = q.val * 512 := by decide +kernel
theorem off8_val : ∀ q : Fin k0_t3_loop.trips, k0_off8 q 0 = 0 ∧ k0_off8 q 1 = q.val * 512 := by decide +kernel
theorem off9_val : ∀ q : Fin k0_t3_loop.trips, k0_off9 q 0 = 512 ∧ k0_off9 q 1 = q.val * 512 := by decide +kernel

/-- The place of row `k` of a chunk of column `y` in a buffer, the chunk's rows starting at `o`. -/
theorem chunk_emb {R R' : ℕ} (o : ℕ) (off : Fin 2 → ℕ) (y : Fin 2048) (k : Fin R') (hk : o + k.val < R)
    (inb : ∀ a, off a + (⟨2, ![R', 512]⟩ : Shape).size a ≤ (⟨2, ![R, 2048]⟩ : Shape).size a)
    (h0 : off 0 = o) (h1 : off 1 = y.val / 512 * 512) :
    (Rect.unit (s := ⟨2, ![R, 2048]⟩) off (⟨2, ![R', 512]⟩ : Shape).size inb).emb (ValueIdx.ix2 k (⟨y.val % 512, Nat.mod_lt _ (by decide)⟩ : Fin 512))
      = ValueIdx.ix2 ⟨o + k.val, hk⟩ y := by
  refine funext fun a => Fin.ext ?_
  match a with
  | ⟨0, _⟩ => show off 0 + 1 * k.val = o + k.val; rw [h0]; omega
  | ⟨1, _⟩ => show off 1 + 1 * (y.val % 512) = y.val; rw [h1]; omega

/-- The block, in either case: the base product, the product with the first 512 rows of the buffer, and with more than two live
    windows the product with the last 512. -/
theorem outBlk_apply (T : S136.Idx → BitVec 32) (x : Vec Ideal S1024x2048 .bf16) (w : Vec Ideal S2048x2048 .bf16) (h h' : Vec Ideal S1024x512 .bf16)
    (b : Vec Ideal S1024x2048 .bf16) (r : Fin 1024) (q : Fin 2048) :
    outBlk (F := Ideal) T x w h h' b (ValueIdx.ix2 r q)
      = ((∑ k : Fin 2048, x (ValueIdx.ix2 r k) * w (ValueIdx.ix2 k q))
        + ((∑ k : Fin 512, h (ValueIdx.ix2 r k) * b (ValueIdx.ix2 ⟨k.val, by omega⟩ q))
          + if (liveWord T).toInt ≤ 2 then 0 else ∑ k : Fin 512, h' (ValueIdx.ix2 r k) * b (ValueIdx.ix2 ⟨512 + k.val, by omega⟩ q) : EReal)) := by
  unfold outBlk
  by_cases hc : (liveWord T).toInt ≤ 2
  · rw [if_pos ((cond2_iff _).mpr hc), if_pos hc, add_zero]
    have hb : ∀ k : Fin 512, sub b (Rect.unit (s := S1024x2048) ![0, 0] S512x2048.size inb_S1024x2048_S512x2048_0_0) (ValueIdx.ix2 k q)
        = b (ValueIdx.ix2 ⟨k.val, by omega⟩ q) := fun k => by
      refine congrArg b (funext fun a => Fin.ext ?_)
      match a with
      | ⟨0, _⟩ => show 0 + 1 * k.val = k.val; omega
      | ⟨1, _⟩ => show 0 + 1 * q.val = q.val; omega
    exact (pay2_apply x w h _ r q).trans (congrArg₂ (· + ·) rfl (Finset.sum_congr rfl fun k _ => by rw [hb k]))
  · rw [if_neg (fun h => hc ((cond2_iff _).mp h)), if_neg hc, ← add_assoc]
    have ec : inChunk (ValueIdx.ix2 r q) = ValueIdx.ix2 r (⟨q.val % 512, Nat.mod_lt _ (by decide)⟩ : Fin 512) := by
      funext a; match a with
      | ⟨0, _⟩ => rfl
      | ⟨1, _⟩ => rfl
    generalize hQ : chunkOf (ValueIdx.ix2 r q) = Q
    have hQv : Q.val = q.val / 512 := by rw [← hQ]
    have h7 : ∀ k : Fin 2048, sub w (Rect.unit (s := S2048x2048) (k0_off7 Q) S2048x512.size (k0_off7_inb Q))
        (ValueIdx.ix2 k (⟨q.val % 512, Nat.mod_lt _ (by decide)⟩ : Fin 512)) = w (ValueIdx.ix2 k q) := fun k => congrArg w (by
      refine (chunk_emb (R := 2048) (R' := 2048) 0 (k0_off7 Q) q k (by omega) (k0_off7_inb Q) (off7_val Q).1 (by rw [(off7_val Q).2, hQv])).trans ?_
      exact congrArg (ValueIdx.ix2 · q) (Fin.ext (Nat.zero_add _)))
    have h8 : ∀ k : Fin 512, sub b (Rect.unit (s := S1024x2048) (k0_off8 Q) S512x512.size (k0_off8_inb Q))
        (ValueIdx.ix2 k (⟨q.val % 512, Nat.mod_lt _ (by decide)⟩ : Fin 512)) = b (ValueIdx.ix2 ⟨k.val, by omega⟩ q) := fun k => congrArg b (by
      refine (chunk_emb (R := 1024) (R' := 512) 0 (k0_off8 Q) q k (by omega) (k0_off8_inb Q) (off8_val Q).1 (by rw [(off8_val Q).2, hQv])).trans ?_
      exact congrArg (ValueIdx.ix2 · q) (Fin.ext (Nat.zero_add _)))
    have h9 : ∀ k : Fin 512, sub b (Rect.unit (s := S1024x2048) (k0_off9 Q) S512x512.size (k0_off9_inb Q))
        (ValueIdx.ix2 k (⟨q.val % 512, Nat.mod_lt _ (by decide)⟩ : Fin 512)) = b (ValueIdx.ix2 ⟨512 + k.val, by omega⟩ q) := fun k => congrArg b
      (chunk_emb (R := 1024) (R' := 512) 512 (k0_off9 Q) q k (by omega) (k0_off9_inb Q) (off9_val Q).1 (by rw [(off9_val Q).2, hQv]))
    show chunk x w h h' b (chunkOf (ValueIdx.ix2 r q)) (inChunk (ValueIdx.ix2 r q)) = _
    rw [ec, hQ]
    exact (pay3_apply x _ h _ h' _ r _).trans (congrArg₂ (· + ·)
      (congrArg₂ (· + ·) (Finset.sum_congr rfl fun k _ => by rw [h7 k]) (Finset.sum_congr rfl fun k _ => by rw [h8 k]))
      (Finset.sum_congr rfl fun k _ => by rw [h9 k]))

/-! ## The scratch buffers at an index -/

variable (m : (ℓ : Loc nD τ sig) → Buf (Elt Ideal) ℓ) (ρ : Dev nD → PrngReg) (hO : Ok m) (hT : PagesOk (tbl m 0)) (c : Dev nD)

theorem colPt_val (t : Fin grid0.N) : (colPt t.val).val / 12 = t.val / 12 := by
  have := lt48 t
  show t.val / 12 % 4 * 12 / 12 = _
  omega

theorem tileCol_colPt (t : Fin grid0.N) (q : Fin 2048) : tileCol (colPt t.val) q = tileCol t q :=
  Fin.ext (by show (colPt t.val).val / 12 * 2048 + _ = _; rw [colPt_val])

/-- The dequantised column tile. -/
theorem wcol_apply (t : Fin grid0.N) (k q : Fin 2048) :
    wcol m hO c t.val (ValueIdx.ix2 k q)
      = Spec.weight (m ((c : Thread nD τ).loc main_arg4)) (m ((c : Thread nD τ).loc main_arg5)) k (tileCol t q) := by
  unfold wcol wfull
  rw [iblk3_apply, iblk4_apply]
  show (_ * _ : EReal) = _
  unfold Spec.weight
  rw [← tileCol_colPt t q]
  rfl

theorem pix_eq (i : grid0.Coords) {T : S136.Idx → BitVec 32} (hT : PagesOk T) (k : Fin 1024) (q : Fin 2048) (j : Fin 8192)
    (hj : (i 0).val * 2048 + q.val = j.val) : pix i hT (ValueIdx.ix2 k q) = ValueIdx.ix2 (Spec.poolRow T k) j := by
  refine funext fun a => Fin.ext ?_
  match a with
  | ⟨0, _⟩ =>
    have h := hT ⟨k.val / 8, by omega⟩
    have hw : wix ⟨k.val / 8, by omega⟩ = Spec.at1 ⟨k.val / 8, by omega⟩ := funext fun a => by match a with | ⟨0, _⟩ => rfl
    show (T (wix ⟨k.val / 8, _⟩)).toNat * 8 + k.val % 8 = (Spec.poolRow T k).val
    unfold Spec.poolRow
    rw [hw] at h ⊢
    exact (Nat.min_eq_left (by omega)).symm
  | ⟨1, _⟩ => exact hj

/-- The pool rows that the page table names. -/
theorem bcol_apply (t : Fin grid0.N) (k : Fin 1024) (q : Fin 2048) :
    bcol m hT c t.val (ValueIdx.ix2 k q)
      = m ((c : Thread nD τ).loc main_arg6) (ValueIdx.ix2 (Spec.poolRow (tbl m 0) k) (tileCol t q)) :=
  congrArg (m ((c : Thread nD τ).loc main_arg6)) (pix_eq _ hT k q _ (by rw [(coords_val _).1, colPt_val]))

/-! ## The result array -/

/-- What the result array is shown to hold. -/
def G : Buf (Elt Ideal) ((c : Thread nD τ).loc main_v0) := fun (z : S12288x8192.Idx) =>
  Spec.out (tbl m 0) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (z 0) (z 1)

theorem block_eq (t : Fin grid0.N) (r : Fin 1024) (q : Fin 2048) :
    outBlk (F := Ideal) (tbl m 0) (iblk m hO c 0 t) (wcol m hO c t.val) (iblk m hO c 1 t) (iblk m hO c 2 t) (bcol m hT c t.val) (ValueIdx.ix2 r q)
      = G m c (ValueIdx.ix2 (tileRow t r) (tileCol t q)) := by
  refine (outBlk_apply _ _ _ _ _ _ r q).trans ?_
  have hl : liveWord (tbl m 0) = tbl m 0 (Spec.at1 ⟨128, by decide⟩) := congrArg (tbl m 0) (funext fun a => by match a with | ⟨0, _⟩ => rfl)
  show _ = Spec.out _ _ _ _ _ _ _ (tileRow t r) (tileCol t q)
  unfold Spec.out
  rw [← hl]
  refine congrArg₂ (· + ·) (Finset.sum_congr rfl fun k _ => ?_) (congrArg₂ (· + ·) (Finset.sum_congr rfl fun k _ => ?_) ?_)
  · rw [wcol_apply, iblk0_apply]
  · rw [bcol_apply, iblk1_apply]
  · by_cases hc : (liveWord (tbl m 0)).toInt ≤ 2
    · rw [if_pos hc, if_pos hc]
    · rw [if_neg hc, if_neg hc]
      exact Finset.sum_congr rfl fun k _ => by rw [bcol_apply, iblk2_apply m hO c hc]

theorem flushed_eq (t : Fin (cfgM m hO).N) :
    (dats m hO hT 0 c).flushed 5 t = (((cfgM m hO).win 5).blk t).view.read (Elt Ideal) (G m c) := by
  show ((cfgM m hO).win 5).cut (grid0.coords t) ((dats m hO hT 0 c).after 5 t) = _
  rw [after0_5]
  funext (y : S1024x2048.Idx)
  show outBlk (F := Ideal) _ _ _ _ _ _ y = G m c ((((cfgM m hO).win 5).blk t).view.emb y)
  rw [emb5]
  have ey : y = ValueIdx.ix2 (y 0) (y 1) := by
    funext a; match a with
    | ⟨0, _⟩ => rfl
    | ⟨1, _⟩ => rfl
  exact (congrArg _ ey).trans (block_eq m hO hT c t (y 0) (y 1))

/-- Every element of the result is in a block. -/
theorem cover (z : S12288x8192.Idx) :
    ∃ t : Fin (cfgM m hO).N, ((cfgM m hO).win 5).flush t = true ∧ z ∈ (((cfgM m hO).win 5).blk t).view.set := by
  have h0 : (z 0).val < 12288 := (z 0).isLt
  have h1 : (z 1).val < 8192 := (z 1).isLt
  have ht : (z 1).val / 2048 * 12 + (z 0).val / 1024 < grid0.N := by rw [N_0]; omega
  refine ⟨⟨(z 1).val / 2048 * 12 + (z 0).val / 1024, ht⟩, flush0_5 _ _, ?_⟩
  have h := (((cfgM m hO).win 5).blk ⟨(z 1).val / 2048 * 12 + (z 0).val / 1024, ht⟩).view.emb_mem_set
    (ValueIdx.ix2 (⟨(z 0).val % 1024, by omega⟩ : Fin 1024) (⟨(z 1).val % 2048, by omega⟩ : Fin 2048))
  rw [emb5 m hO ⟨(z 1).val / 2048 * 12 + (z 0).val / 1024, ht⟩] at h
  refine (congrArg (· ∈ _) ?_).mp h
  funext a
  apply Fin.ext
  match a with
  | ⟨0, _⟩ =>
    show ((z 1).val / 2048 * 12 + (z 0).val / 1024) % 12 * 1024 + (z 0).val % 1024 = (z 0).val
    omega
  | ⟨1, _⟩ =>
    show ((z 1).val / 2048 * 12 + (z 0).val / 1024) / 12 * 2048 + (z 1).val % 2048 = (z 1).val
    omega

theorem final (hO : Ok m) (hT : PagesOk (tbl m 0)) (c : Dev nD) : (dats m hO hT 0 c).arrAt 5 (cfgM m hO).N = G m c :=
  (dats m hO hT 0 c).arrAt_eq_of_cover 5 (G m c) (fun t _ => flushed_eq m hO hT c t) (cover m hO)

/-- The run: the result array holds `G`, and the arguments end unchanged. -/
theorem run (hO : Ok m) (hT : PagesOk (tbl m 0)) : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 5).trans (final m hO hT c),
      ((h.1 c).2 main_arg0 (by decide : main_arg0 ∈ Pipeline.restRefs sig spec0)).trans rfl,
      ((h.1 c).1 0).trans (((dats m hO hT 0 c).arrAt_in 0 rfl _).trans (A_eq m hO hT c 0)),
      ((h.1 c).1 1).trans (((dats m hO hT 0 c).arrAt_in 1 rfl _).trans (A_eq m hO hT c 1)),
      ((h.1 c).1 2).trans (((dats m hO hT 0 c).arrAt_in 2 rfl _).trans (A_eq m hO hT c 2)),
      ((h.1 c).1 3).trans (((dats m hO hT 0 c).arrAt_in 3 rfl _).trans (A_eq m hO hT c 3)),
      ((h.1 c).1 4).trans (((dats m hO hT 0 c).arrAt_in 4 rfl _).trans (A_eq m hO hT c 4)),
      ((h.1 c).2 main_arg6 (by decide : main_arg6 ∈ Pipeline.restRefs sig spec0)).trans rfl⟩)
    (run_main_quiescent m ρ hO hT)

end Cert.KernelIdeal.Hand

end
-- ==== Proof.Nibble.lean ====
/- Two ways to read the signed 4-bit code at a place of a word: up to the top and back down with the sign, and mask and correct by 16. -/
module

public import proofs.«01_k».proof.Proof.Spec

@[expose] public section

namespace Cert.Nibble

open Idealize.ShloMosaic

/-- Shifting down by `s` and masking four bits leaves the four bits from place `s`. -/
theorem field_eq (w : BitVec 32) (s : ℕ) (hs : s ≤ 28) : (w.sshiftRight s) &&& 15#32 = (w.extractLsb' s 4).setWidth 32 := by
  have h15 : ∀ i, i < 32 → (15#32 : BitVec 32).getLsbD i = decide (i < 4) := by decide
  apply BitVec.eq_of_getLsbD_eq
  intro i hi
  rw [BitVec.getLsbD_and, h15 i hi, BitVec.getLsbD_sshiftRight, BitVec.getLsbD_setWidth, BitVec.getLsbD_extractLsb']
  by_cases h4 : i < 4
  · have : s + i < 32 := by omega
    simp [h4, hi, this]
  · simp [h4]

/-- Shifting up by `t` and down by 28 with the sign leaves the four bits from place `28 - t`, with their sign. -/
theorem top_eq (w : BitVec 32) (t : ℕ) (ht : t ≤ 28) : (w <<< t).sshiftRight 28 = (w.extractLsb' (28 - t) 4).signExtend 32 := by
  apply BitVec.eq_of_getLsbD_eq
  intro i hi
  rw [BitVec.getLsbD_sshiftRight, BitVec.getLsbD_signExtend, BitVec.msb_eq_getLsbD_last, BitVec.msb_eq_getLsbD_last]
  by_cases h4 : i < 4
  · have h1 : 28 + i < 32 := by omega
    have h2 : ¬ 28 + i < t := by omega
    have h3 : 28 + i - t = 28 - t + i := by omega
    have h5 : 28 - t + i < 32 := by omega
    simp [Nat.not_le.mpr hi, BitVec.getLsbD_eq_getElem h5, BitVec.getLsbD_extractLsb', BitVec.getLsbD_shiftLeft, h4, hi, h1, h2, h3]
  · have h1 : ¬ 28 + i < 32 := by omega
    have h2 : ¬ 31 < t := by omega
    have h3 : 31 - t = 28 - t + 3 := by omega
    have h5 : 28 - t + 3 < 32 := by omega
    simp [Nat.not_le.mpr hi, BitVec.getLsbD_eq_getElem h5, BitVec.getLsbD_extractLsb', BitVec.getLsbD_shiftLeft, h4, hi, h1, h2, h3]

/-- Of a 4-bit code: the unsigned value less 16 if it is at least 8 is the signed value. -/
theorem code4 : ∀ n : BitVec 4, n.setWidth 32 - 16#32 * (BitVec.ofBool ((8#32 : BitVec 32).sle (n.setWidth 32))).setWidth 32 = n.signExtend 32 := by decide

/-- The code at the four bits from place `s`, by mask and correction. -/
def code (w s : BitVec 32) : BitVec 32 :=
  IntOp.subi (IntOp.andi (IntOp.shrsi .host w s) 15#32)
    (IntOp.muli 16#32 ((IntOp.cmpi .sge (IntOp.andi (IntOp.shrsi .host w s) 15#32) 8#32).setWidth 32))

/-- The two readings agree. -/
theorem code_eq (w : BitVec 32) (p : ℕ) (hp : p < 8) : code w (BitVec.ofNat 32 (4 * p)) = Spec.nib w p := by
  have hs : (BitVec.ofNat 32 (4 * p)).toNat = 4 * p := by rw [BitVec.toNat_ofNat]; omega
  have ht : (IntOp.subi 28#32 (IntOp.muli 4#32 (BitVec.ofNat 32 p))).toNat = 28 - 4 * p := by
    have : ∀ p : Fin 8, (IntOp.subi 28#32 (IntOp.muli 4#32 (BitVec.ofNat 32 p.val))).toNat = 28 - 4 * p.val := by decide
    exact this ⟨p, hp⟩
  have e1 : IntOp.shrsi .host w (BitVec.ofNat 32 (4 * p)) = w.sshiftRight (4 * p) := by
    unfold IntOp.shrsi
    rw [if_pos (by rw [hs]; omega), BitVec.sshiftRight', hs]
  have e2 : Spec.nib w p = (w <<< (28 - 4 * p)).sshiftRight 28 := by
    unfold Spec.nib IntOp.shrsi IntOp.shli
    rw [if_pos (by decide), if_pos (by rw [ht]; omega), BitVec.sshiftRight', BitVec.shiftLeft_eq', ht]
    rfl
  rw [e2, top_eq w _ (by omega), show 28 - (28 - 4 * p) = 4 * p by omega, ← code4]
  unfold code
  rw [e1]
  show (w.sshiftRight (4 * p) &&& 15#32) - 16#32 * (BitVec.ofBool ((8#32 : BitVec 32).sle (w.sshiftRight (4 * p) &&& 15#32))).setWidth 32 = _
  rw [field_eq w _ (by omega)]

end Cert.Nibble
-- ==== Proof.Sums.lean ====
/- Two regroupings of a finite sum. -/
module

public import Mathlib.Algebra.BigOperators.Fin
public import Mathlib.Data.EReal.Basic

@[expose] public section

namespace Cert.Sums

open scoped BigOperators

/-- A sum over 2048 rows is a sum over the eight remainders of the sums over the 256 rows with that remainder. -/
theorem sum_2048 (f : Fin 2048 → EReal) :
    ∑ k : Fin 2048, f k = ∑ p : Fin 8, ∑ k : Fin 256, f ⟨8 * k.val + p.val, by omega⟩ := by
  rw [Finset.sum_comm, ← Fintype.sum_prod_type' (fun (k : Fin 256) (p : Fin 8) => f ⟨8 * k.val + p.val, by omega⟩)]
  refine (Fintype.sum_equiv (finProdFinEquiv (m := 256) (n := 8)) _ (fun k : Fin (256 * 8) => f k) fun x => ?_).symm
  refine congrArg f (Fin.ext ?_)
  show 8 * x.1.val + x.2.val = x.2.val + 8 * x.1.val
  omega

/-- A sum over 1024 slots is the sum over the first 512 and the sum over the last 512. -/
theorem sum_1024 (f : Fin 1024 → EReal) :
    ∑ k : Fin 1024, f k = (∑ k : Fin 512, f ⟨k.val, by omega⟩) + ∑ k : Fin 512, f ⟨512 + k.val, by omega⟩ :=
  Fin.sum_univ_add (a := 512) (b := 512) f

end Cert.Sums
-- ==== Proof.RefBase.lean ====
/- The reference's base product at an index: eight products over strided columns are one product with the dequantised weights. -/
module

public import proofs.«01_k».proof.Proof.Gen.ReferenceIdeal
public import proofs.«01_k».proof.Proof.Nibble
public import proofs.«01_k».proof.Proof.Sums
public import Idealize.ShloMosaic.Lib.Pointwise
public import Idealize.ShloMosaic.Lib.StackMember

@[expose] public section

noncomputable section

namespace Cert.ReferenceIdeal.Hand

open Cert.ReferenceIdeal Cert.ReferenceIdeal.Gen
open Idealize.ShloMosaic
open scoped BigOperators

/-- The scale rows, each repeated 16 times. -/
def scaleRows (S : FVec Ideal S16x8192 .bf16) : FVec Ideal S256x8192 .bf16 :=
  shapeCast _ (broadcastInDim S16x16x8192 ![0, 2] bcast_S16x8192_S16x16x8192_0_2 S) shapeCasts_S16x16x8192_S256x8192

/-- Row `k` of the repeated scales is scale row `k / 16`. -/
theorem scaleRows_apply (S : FVec Ideal S16x8192 .bf16) (k : Fin 256) (j : Fin 8192) :
    scaleRows S (ValueIdx.ix2 k j) = S (ValueIdx.ix2 (⟨k.val / 16, by omega⟩ : Fin 16) j) := by
  have e : Shape.reshapeEquiv shapeCasts_S16x16x8192_S256x8192 (ValueIdx.ix2 k j)
      = ValueIdx.ix3 (⟨k.val / 16, by omega⟩ : Fin 16) (⟨k.val % 16, by omega⟩ : Fin 16) j := by
    refine Shape.reshapeEquiv_eq_of_vals _ _ _ _ _ (rowMajor_val3 _ 131072 8192 rfl rfl) (rowMajor_val2 _ 8192 rfl) ?_
    show k.val / 16 * 131072 + k.val % 16 * 8192 + j.val = k.val * 8192 + j.val
    omega
  unfold scaleRows shapeCast
  rw [e]
  unfold broadcastInDim
  refine congrArg S (funext fun a => ?_)
  match a with
  | ⟨0, _⟩ => rfl
  | ⟨1, _⟩ => rfl

/-- The four bits from place `s` of every word. -/
def field (W : IVec S256x8192 32) (s : BitVec 32) : IVec S256x8192 32 :=
  andi (Host.shrsi W (broadcastInDim S256x8192 ![] bcast_S_S256x8192 (constantI S_ 32 s))) (broadcastInDim S256x8192 ![] bcast_S_S256x8192 (constantI S_ 32 15#32))

/-- The codes of the weights in those bits, as floats, times their scales. -/
def partW (R : FVec Ideal S256x8192 .bf16) (f : IVec S256x8192 32) : FVec Ideal S256x8192 .bf16 :=
  mulf (sitofp .bf16 (subi f (muli (broadcastInDim S256x8192 ![] bcast_S_S256x8192 (constantI S_ 32 16#32))
    (extui 32 (cmpi .sge f (broadcastInDim S256x8192 ![] bcast_S_S256x8192 (constantI S_ 32 8#32))) natLt_1_32)))) R

/-- The weights at remainder `p` are the weights of the rows 8 k + p. -/
theorem partW_apply (W : IVec S256x8192 32) (S : FVec Ideal S16x8192 .bf16) (p : ℕ) (hp : p < 8) (s : BitVec 32) (hs : s = BitVec.ofNat 32 (4 * p))
    (k : Fin 256) (j : Fin 8192) :
    partW (scaleRows S) (field W s) (ValueIdx.ix2 k j) = Spec.weight W S ⟨8 * k.val + p, by omega⟩ j := by
  have e1 : (⟨(8 * k.val + p) / 8, by omega⟩ : Fin 256) = k := Fin.ext (by show (8 * k.val + p) / 8 = k.val; omega)
  have e2 : (⟨(8 * k.val + p) / 128, by omega⟩ : Fin 16) = ⟨k.val / 16, by omega⟩ := Fin.ext (by show (8 * k.val + p) / 128 = k.val / 16; omega)
  have e3 : (8 * k.val + p) % 8 = p := by omega
  unfold Spec.weight
  simp only [e1, e2, e3]
  rw [← Nibble.code_eq _ p hp, ← scaleRows_apply S k j, ← hs]
  rfl

/-- One of the eight products. -/
def part (x : FVec Ideal S12288x2048 .bf16) (off : Fin 2 → Nat) (h : S12288x2048.SlicesBy off ![1, 8] S12288x256) (B : FVec Ideal S256x8192 .bf16) :
    FVec Ideal S12288x8192 .f32 :=
  Host.dotGeneral dot_S12288x256_S256x8192_S12288x8192_1_0_0_1_n_n none (Host.slice S12288x256 off ![1, 8] x h) B

theorem part_apply (x : FVec Ideal S12288x2048 .bf16) (W : IVec S256x8192 32) (S : FVec Ideal S16x8192 .bf16) (p : ℕ) (hp : p < 8)
    (s : BitVec 32) (hs : s = BitVec.ofNat 32 (4 * p)) (h : S12288x2048.SlicesBy ![0, p] ![1, 8] S12288x256) (r : Fin 12288) (j : Fin 8192) :
    part x ![0, p] h (partW (scaleRows S) (field W s)) (ValueIdx.ix2 r j)
      = ∑ k : Fin 256, x (ValueIdx.ix2 r (⟨8 * k.val + p, by omega⟩ : Fin 2048)) * Spec.weight W S ⟨8 * k.val + p, by omega⟩ j := by
  refine (StackMember.dotGeneral_plain_apply (m := 12288) (n := 8192) (k := 256) (φ₁ := .bf16) (φ₂ := .bf16) none
    (Host.slice S12288x256 ![0, p] ![1, 8] x h) (partW (scaleRows S) (field W s)) r j).trans ?_
  refine Finset.sum_congr rfl fun k _ => ?_
  rw [partW_apply W S p hp s hs]
  refine congrArg (· * _) ?_
  unfold Host.slice
  refine congrArg x (funext fun a => Fin.ext ?_)
  match a with
  | ⟨0, _⟩ => show 0 + 1 * r.val = r.val; omega
  | ⟨1, _⟩ => show p + 8 * k.val = 8 * k.val + p; omega

/-- The base product, summed from the left. -/
theorem base_apply (x : FVec Ideal S12288x2048 .bf16) (W : IVec S256x8192 32) (S : FVec Ideal S16x8192 .bf16) (r : Fin 12288) (j : Fin 8192) :
    (((((((part x ![0, 0] slicesBy_S12288x2048_S12288x256_0s1_0s8 (partW (scaleRows S) (field W 0#32)) (ValueIdx.ix2 r j)
      + part x ![0, 1] slicesBy_S12288x2048_S12288x256_0s1_1s8 (partW (scaleRows S) (field W 4#32)) (ValueIdx.ix2 r j))
      + part x ![0, 2] slicesBy_S12288x2048_S12288x256_0s1_2s8 (partW (scaleRows S) (field W 8#32)) (ValueIdx.ix2 r j))
      + part x ![0, 3] slicesBy_S12288x2048_S12288x256_0s1_3s8 (partW (scaleRows S) (field W 12#32)) (ValueIdx.ix2 r j))
      + part x ![0, 4] slicesBy_S12288x2048_S12288x256_0s1_4s8 (partW (scaleRows S) (field W 16#32)) (ValueIdx.ix2 r j))
      + part x ![0, 5] slicesBy_S12288x2048_S12288x256_0s1_5s8 (partW (scaleRows S) (field W 20#32)) (ValueIdx.ix2 r j))
      + part x ![0, 6] slicesBy_S12288x2048_S12288x256_0s1_6s8 (partW (scaleRows S) (field W 24#32)) (ValueIdx.ix2 r j))
      + part x ![0, 7] slicesBy_S12288x2048_S12288x256_0s1_7s8 (partW (scaleRows S) (field W 28#32)) (ValueIdx.ix2 r j) : EReal)
      = ∑ k : Fin 2048, x (ValueIdx.ix2 r k) * Spec.weight W S k j := by
  rw [Sums.sum_2048, Fin.sum_univ_eight,
    part_apply x W S 0 (by decide) 0#32 rfl, part_apply x W S 1 (by decide) 4#32 rfl, part_apply x W S 2 (by decide) 8#32 rfl,
    part_apply x W S 3 (by decide) 12#32 rfl, part_apply x W S 4 (by decide) 16#32 rfl, part_apply x W S 5 (by decide) 20#32 rfl,
    part_apply x W S 6 (by decide) 24#32 rfl, part_apply x W S 7 (by decide) 28#32 rfl]
  rfl

end Cert.ReferenceIdeal.Hand

end
-- ==== Proof.RefDelta.lean ====
/- The reference's second product at an index: the low-rank activations times the pool rows that the page table names. -/
module

public import proofs.«01_k».proof.Proof.Gen.ReferenceIdeal
public import proofs.«01_k».proof.Proof.Spec
public import proofs.«01_k».proof.Proof.Sums
public import Idealize.ShloMosaic.Lib.Pointwise
public import Idealize.ShloMosaic.Lib.StackMember
public import Idealize.ShloMosaic.Lib.Pipeline.Value

@[expose] public section

noncomputable section

namespace Cert.ReferenceIdeal.Hand

open Cert.ReferenceIdeal Cert.ReferenceIdeal.Gen
open Idealize.ShloMosaic
open scoped BigOperators

/-! ## The row numbers -/

/-- The row of every slot: eight rows of every page. -/
def rows (T : IVec S136 32) : IVec S1024 32 :=
  shapeCast _ (addi (broadcastInDim S128x8 ![0, 1] bcast_S128x1_S128x8_0_1 (muli (broadcastInDim S128x1 ![0] bcast_S128_S128x1_0 (extractStridedSlice S128 ![0] T slices_S136_S128_0)) (broadcastInDim S128x1 ![] bcast_S_S128x1 (constantI S_ 32 8#32)))) (broadcastInDim S128x8 ![0, 1] bcast_S1x8_S128x8_0_1 (broadcastInDim S1x8 ![1] bcast_S8_S1x8_1 (iotaInDim S8 32 0)))) shapeCasts_S128x8_S1024

theorem rows_apply (T : IVec S136 32) (s : Fin 1024) :
    rows T (ValueIdx.ix1 s) = T (Spec.at1 ⟨s.val / 8, by omega⟩) * 8#32 + BitVec.ofNat 32 (s.val % 8) := by
  have e : Shape.reshapeEquiv shapeCasts_S128x8_S1024 (ValueIdx.ix1 s)
      = ValueIdx.ix2 (⟨s.val / 8, by omega⟩ : Fin 128) (⟨s.val % 8, by omega⟩ : Fin 8) := by
    refine Shape.reshapeEquiv_eq_of_vals _ _ _ _ _ (rowMajor_val2 _ 8 rfl) (rowMajor_val1 _) ?_
    show s.val / 8 * 8 + s.val % 8 = s.val
    omega
  unfold rows shapeCast
  rw [e]
  show T _ * 8#32 + BitVec.ofNat 32 _ = _
  refine congrArg₂ (fun a b : BitVec 32 => a * 8#32 + b) (congrArg T (funext fun a => ?_)) rfl
  match a with
  | ⟨0, _⟩ => exact Fin.ext (Nat.zero_add _)

/-- The row numbers with those below zero counted from the end, as the gather takes them. -/
def wrapped (T : IVec S136 32) : IVec S1024x1 32 :=
  broadcastInDim S1024x1 ![0] bcast_S1024_S1024x1_0 (select (cmpi .slt (rows T) (broadcastInDim S1024 ![] bcast_S_S1024 (constantI S_ 32 0#32))) (addi (rows T) (broadcastInDim S1024 ![] bcast_S_S1024 (constantI S_ 32 1000#32))) (rows T))

/-- With every page in the pool, a row number is what it says. -/
theorem wrapped_apply (T : IVec S136 32) (hT : ∀ k : Fin 128, (T (Spec.at1 ⟨k.val, by omega⟩)).toNat < 125) (s : Fin 1024) :
    (wrapped T (ValueIdx.ix2 s (0 : Fin 1))).toInt.toNat = (T (Spec.at1 ⟨s.val / 8, by omega⟩)).toNat * 8 + s.val % 8 := by
  have hb : (T (Spec.at1 ⟨s.val / 8, by omega⟩)).toNat < 125 := hT ⟨s.val / 8, by omega⟩
  have hr : (rows T (ValueIdx.ix1 s)).toNat = (T (Spec.at1 ⟨s.val / 8, by omega⟩)).toNat * 8 + s.val % 8 := by
    rw [rows_apply, BitVec.toNat_add, BitVec.toNat_mul, BitVec.toNat_ofNat, BitVec.toNat_ofNat]
    have : s.val % 8 < 8 := Nat.mod_lt _ (by decide)
    omega
  have hi : (rows T (ValueIdx.ix1 s)).toInt = ((T (Spec.at1 ⟨s.val / 8, by omega⟩)).toNat * 8 + s.val % 8 : ℕ) := by
    rw [BitVec.toInt_eq_toNat_of_lt (by rw [hr]; omega), hr]
  have hs : (rows T (ValueIdx.ix1 s)).slt 0#32 = false := by
    simp only [BitVec.slt, decide_eq_false_iff_not, hi]
    have : (0#32 : BitVec 32).toInt = 0 := by decide
    omega
  have e : wrapped T (ValueIdx.ix2 s (0 : Fin 1)) = Scalar.select (BitVec.ofBool ((rows T (ValueIdx.ix1 s)).slt 0#32)) (rows T (ValueIdx.ix1 s) + 1000#32) (rows T (ValueIdx.ix1 s)) := by
    unfold wrapped broadcastInDim
    have e1 : (fun a : Fin S1024.rank => if h1 : S1024.size a = 1 then (⟨0, by omega⟩ : Fin (S1024.size a)) else ⟨((ValueIdx.ix2 s (0 : Fin 1) : S1024x1.Idx) ((![0] : Fin 1 → Fin 2) a)).val, by
        match a with | ⟨0, _⟩ => exact s.isLt⟩) = ValueIdx.ix1 s := by
      funext a; match a with | ⟨0, _⟩ => rfl
    exact congrArg (fun y : S1024.Idx => Scalar.select (BitVec.ofBool ((rows T y).slt 0#32)) (rows T y + 1000#32) (rows T y)) e1
  rw [e, hs]
  show (rows T (ValueIdx.ix1 s)).toInt.toNat = _
  rw [hi]
  rfl

/-! ## The gather -/

/-- Row `s` of the gathered rows is the operand's row at the start index, read signed and kept in range. -/
theorem gather_apply (P : FVec Ideal S1000x8192 .bf16) (idx : IVec S1024x1 32) (s : Fin 1024) (j : Fin 8192) :
    Host.gather gather_S1000x8192_S1024x1_S1024x8192_1_0_n_n_0_1_18192 P idx (ValueIdx.ix2 s j)
      = P (ValueIdx.ix2 (⟨min (idx (ValueIdx.ix2 s (0 : Fin 1))).toInt.toNat 999, by omega⟩ : Fin 1000) j) := by
  unfold Host.gather
  refine congrArg P (funext fun a => Fin.ext ?_)
  generalize hd : gather_S1000x8192_S1024x1_S1024x8192_1_0_n_n_0_1_18192 = d
  show d.start (ValueIdx.ix2 s j) idx a + d.batchCoord (ValueIdx.ix2 s j) a + d.offCoord (ValueIdx.ix2 s j) a = _
  subst hd
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1000x8192_S1024x1_S1024x8192_1_0_n_n_0_1_18192.startIndexMap from List.mem_singleton.mpr rfl)]
    have hsi : ∀ q, gather_S1000x8192_S1024x1_S1024x8192_1_0_n_n_0_1_18192.siIdx (ValueIdx.ix2 s j) ⟨0, q⟩ = ValueIdx.ix2 s (0 : Fin 1) := by
      intro q
      funext b; refine Fin.ext ?_
      match b with
      | ⟨0, _⟩ => rfl
      | ⟨1, _⟩ => rfl
    exact congrArg (fun y => min (idx y).toInt.toNat 999) (hsi _)
  · unfold GatherDims.start
    rw [dif_neg (show ¬ (1 : Fin 2) ∈ gather_S1000x8192_S1024x1_S1024x8192_1_0_n_n_0_1_18192.startIndexMap from fun h => absurd (List.mem_singleton.mp h) (by decide))]
    show 0 + 0 + _ = j.val
    rw [Nat.zero_add]
    rfl

/-- The gathered rows are the pool rows that the table names. -/
theorem pool_apply (T : IVec S136 32) (hT : ∀ k : Fin 128, (T (Spec.at1 ⟨k.val, by omega⟩)).toNat < 125) (P : FVec Ideal S1000x8192 .bf16)
    (s : Fin 1024) (j : Fin 8192) :
    Host.gather gather_S1000x8192_S1024x1_S1024x8192_1_0_n_n_0_1_18192 P (wrapped T) (ValueIdx.ix2 s j) = P (ValueIdx.ix2 (Spec.poolRow T s) j) := by
  rw [gather_apply]
  refine congrArg (fun y : Fin 1000 => P (ValueIdx.ix2 y j)) (Fin.ext ?_)
  show min _ 999 = min _ 999
  rw [wrapped_apply T hT]

/-! ## The activations -/

/-- The second half of the activations, zero unless more than two windows are live. -/
def more (T : IVec S136 32) (hm : FVec Ideal S12288x512 .bf16) : FVec Ideal S12288x512 .bf16 :=
  select (broadcastInDim S12288x512 ![] bcast_S_S12288x512 (cmpi .sgt (shapeCast _ (extractStridedSlice S1 ![128] T slices_S136_S1_128) shapeCasts_S1_S_) (constantI S_ 32 2#32))) hm (broadcastInDim S12288x512 ![] bcast_S_S12288x512 (constant (F := Ideal) S_ .bf16 0x0000#16))

theorem zero_bf16 : (FloatOps.ofBits (F := Ideal) .bf16 0x0000#16 : EReal) = 0 := by
  show Ideal.ofBits .bf16 0x0000#16 = 0
  simp [Ideal.ofBits, Ideal.ieee]

theorem more_apply (T : IVec S136 32) (hm : FVec Ideal S12288x512 .bf16) (i : S12288x512.Idx) :
    more T hm i = if (T (Spec.at1 ⟨128, by decide⟩)).toInt ≤ 2 then (0 : EReal) else hm i := by
  have e : more T hm i = Scalar.select (BitVec.ofBool ((2#32 : BitVec 32).slt (T (Spec.at1 ⟨128, by decide⟩)))) (hm i) (FloatOps.ofBits (F := Ideal) .bf16 0x0000#16) := by
    unfold more
    show Scalar.select (BitVec.ofBool ((2#32 : BitVec 32).slt (T _))) (hm i) (FloatOps.ofBits (F := Ideal) .bf16 0x0000#16) = _
    refine congrArg (fun y => Scalar.select (BitVec.ofBool ((2#32 : BitVec 32).slt (T y))) (hm i) (FloatOps.ofBits (F := Ideal) .bf16 0x0000#16)) (funext fun a => ?_)
    match a with
    | ⟨0, _⟩ => exact Fin.ext (by
        show 128 + _ = 128
        exact congrArg (128 + ·) (Nat.lt_one_iff.mp (Fin.isLt _)))
  rw [e, zero_bf16]
  have h2 : (2#32 : BitVec 32).toInt = 2 := by decide
  by_cases h : (T (Spec.at1 ⟨128, by decide⟩)).toInt ≤ 2
  · have hf : (2#32 : BitVec 32).slt (T (Spec.at1 ⟨128, by decide⟩)) = false := by
      simp only [BitVec.slt, decide_eq_false_iff_not, h2]; omega
    rw [if_pos h, hf]; rfl
  · have hf : (2#32 : BitVec 32).slt (T (Spec.at1 ⟨128, by decide⟩)) = true := by
      simp only [BitVec.slt, decide_eq_true_eq, h2]; omega
    rw [if_neg h, hf]; rfl

/-! ## The product -/

def delta (T : IVec S136 32) (h hm : FVec Ideal S12288x512 .bf16) (P : FVec Ideal S1000x8192 .bf16) : FVec Ideal S12288x8192 .f32 :=
  Host.dotGeneral dot_S12288x1024_S1024x8192_S12288x8192_1_0_0_1_n_n none
    (concatenate S12288x1024 1 [⟨S12288x512, h⟩, ⟨S12288x512, more T hm⟩] concatenates_S12288x512_S12288x512_S12288x1024_d1)
    (Host.gather gather_S1000x8192_S1024x1_S1024x8192_1_0_n_n_0_1_18192 P (wrapped T))

theorem delta_apply (T : IVec S136 32) (hT : ∀ k : Fin 128, (T (Spec.at1 ⟨k.val, by omega⟩)).toNat < 125)
    (h hm : FVec Ideal S12288x512 .bf16) (P : FVec Ideal S1000x8192 .bf16) (r : Fin 12288) (j : Fin 8192) :
    delta T h hm P (ValueIdx.ix2 r j) = ((∑ k : Fin 512, h (ValueIdx.ix2 r k) * P (ValueIdx.ix2 (Spec.poolRow T ⟨k.val, by omega⟩) j))
      + if (T (Spec.at1 ⟨128, by decide⟩)).toInt ≤ 2 then 0
        else ∑ k : Fin 512, hm (ValueIdx.ix2 r k) * P (ValueIdx.ix2 (Spec.poolRow T ⟨512 + k.val, by omega⟩) j) : EReal) := by
  refine (StackMember.dotGeneral_plain_apply (m := 12288) (n := 8192) (k := 1024) (φ₁ := .bf16) (φ₂ := .bf16) none
    (concatenate S12288x1024 1 [⟨S12288x512, h⟩, ⟨S12288x512, more T hm⟩] concatenates_S12288x512_S12288x512_S12288x1024_d1)
    (Host.gather gather_S1000x8192_S1024x1_S1024x8192_1_0_n_n_0_1_18192 P (wrapped T)) r j).trans ?_
  rw [Sums.sum_1024]
  have eL : ∀ k : Fin 512, concatenate S12288x1024 1 [⟨S12288x512, h⟩, ⟨S12288x512, more T hm⟩] concatenates_S12288x512_S12288x512_S12288x1024_d1
      (ValueIdx.ix2 r (⟨k.val, by omega⟩ : Fin 1024)) = h (ValueIdx.ix2 r k) := fun k =>
    concatenate_pair_apply_left (t := S12288x1024) (s₁ := S12288x512) (s₂ := S12288x512) 1 h (more T hm)
      concatenates_S12288x512_S12288x512_S12288x1024_d1 (ValueIdx.ix2 r (⟨k.val, by omega⟩ : Fin 1024)) rfl (ValueIdx.ix2 r k) fun b => by
      match b with
      | ⟨0, _⟩ => rfl
      | ⟨1, _⟩ => rfl
  have eR : ∀ k : Fin 512, concatenate S12288x1024 1 [⟨S12288x512, h⟩, ⟨S12288x512, more T hm⟩] concatenates_S12288x512_S12288x512_S12288x1024_d1
      (ValueIdx.ix2 r (⟨512 + k.val, by omega⟩ : Fin 1024)) = more T hm (ValueIdx.ix2 r k) := fun k =>
    concatenate_pair_apply_right (t := S12288x1024) (s₁ := S12288x512) (s₂ := S12288x512) 1 h (more T hm)
      concatenates_S12288x512_S12288x512_S12288x1024_d1 (ValueIdx.ix2 r (⟨512 + k.val, by omega⟩ : Fin 1024)) rfl rfl (ValueIdx.ix2 r k) (fun b hb => by
      match b, hb with
      | ⟨0, _⟩, _ => rfl
      | ⟨1, _⟩, hb => exact absurd rfl hb) (Nat.add_comm _ _)
  refine congrArg₂ (fun a b : EReal => a + b) (Finset.sum_congr rfl fun k _ => ?_) ?_
  · rw [eL, pool_apply T hT]
  · by_cases hw : (T (Spec.at1 ⟨128, by decide⟩)).toInt ≤ 2
    · rw [if_pos hw]
      refine Finset.sum_eq_zero fun k _ => ?_
      rw [eR, more_apply, if_pos hw]
      exact zero_mul _
    · rw [if_neg hw]
      refine Finset.sum_congr rfl fun k _ => ?_
      rw [eR, more_apply, if_neg hw, pool_apply T hT]

end Cert.ReferenceIdeal.Hand

end
-- ==== Proof.RefValue.lean ====
/- What the reference leaves in its result, over the extended reals. -/
module

public import proofs.«01_k».proof.Proof.Gen.ReferenceIdeal.Run
public import proofs.«01_k».proof.Proof.RefBase
public import proofs.«01_k».proof.Proof.RefDelta

@[expose] public section

noncomputable section

namespace Cert.ReferenceIdeal.Hand

open Cert.ReferenceIdeal Cert.ReferenceIdeal.Gen Cert.ReferenceIdeal.Value
open Idealize.ShloMosaic Idealize.ShloMosaic.TcCoe Idealize.SL.Sem
open scoped BigOperators

/-- The result's term is the nine products, added from the left. -/
theorem res_eq (V0 : Valuation τ sig (Elt Ideal)) :
    truncf .bf16 (res_main_v145 V0) bitsLt_bf16_f32
      = fun z : S12288x8192.Idx => ((((((((part (V0 (Proc.devRef .tc main_arg1)) ![0, 0] slicesBy_S12288x2048_S12288x256_0s1_0s8 (partW (scaleRows (V0 (Proc.devRef .tc main_arg5))) (field (V0 (Proc.devRef .tc main_arg4)) 0#32)) z
      + part (V0 (Proc.devRef .tc main_arg1)) ![0, 1] slicesBy_S12288x2048_S12288x256_0s1_1s8 (partW (scaleRows (V0 (Proc.devRef .tc main_arg5))) (field (V0 (Proc.devRef .tc main_arg4)) 4#32)) z)
      + part (V0 (Proc.devRef .tc main_arg1)) ![0, 2] slicesBy_S12288x2048_S12288x256_0s1_2s8 (partW (scaleRows (V0 (Proc.devRef .tc main_arg5))) (field (V0 (Proc.devRef .tc main_arg4)) 8#32)) z)
      + part (V0 (Proc.devRef .tc main_arg1)) ![0, 3] slicesBy_S12288x2048_S12288x256_0s1_3s8 (partW (scaleRows (V0 (Proc.devRef .tc main_arg5))) (field (V0 (Proc.devRef .tc main_arg4)) 12#32)) z)
      + part (V0 (Proc.devRef .tc main_arg1)) ![0, 4] slicesBy_S12288x2048_S12288x256_0s1_4s8 (partW (scaleRows (V0 (Proc.devRef .tc main_arg5))) (field (V0 (Proc.devRef .tc main_arg4)) 16#32)) z)
      + part (V0 (Proc.devRef .tc main_arg1)) ![0, 5] slicesBy_S12288x2048_S12288x256_0s1_5s8 (partW (scaleRows (V0 (Proc.devRef .tc main_arg5))) (field (V0 (Proc.devRef .tc main_arg4)) 20#32)) z)
      + part (V0 (Proc.devRef .tc main_arg1)) ![0, 6] slicesBy_S12288x2048_S12288x256_0s1_6s8 (partW (scaleRows (V0 (Proc.devRef .tc main_arg5))) (field (V0 (Proc.devRef .tc main_arg4)) 24#32)) z)
      + part (V0 (Proc.devRef .tc main_arg1)) ![0, 7] slicesBy_S12288x2048_S12288x256_0s1_7s8 (partW (scaleRows (V0 (Proc.devRef .tc main_arg5))) (field (V0 (Proc.devRef .tc main_arg4)) 28#32)) z)
      + delta (V0 (Proc.devRef .tc main_arg0)) (V0 (Proc.devRef .tc main_arg2)) (V0 (Proc.devRef .tc main_arg3)) (V0 (Proc.devRef .tc main_arg6)) z : EReal) := by
  funext z
  rfl

/-- With every page in the pool, the result is the one in plain terms. -/
theorem res_out (V0 : Valuation τ sig (Elt Ideal))
    (hT : ∀ k : Fin 128, ((V0 (Proc.devRef .tc main_arg0) : IVec S136 32) (Spec.at1 ⟨k.val, by omega⟩)).toNat < 125) :
    truncf .bf16 (res_main_v145 V0) bitsLt_bf16_f32
      = fun z : S12288x8192.Idx => Spec.out (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) (V0 (Proc.devRef .tc main_arg6)) (z 0) (z 1) := by
  rw [res_eq]
  funext z
  obtain ⟨r, j, rfl⟩ : ∃ (r : Fin 12288) (j : Fin 8192), z = ValueIdx.ix2 r j := ⟨z 0, z 1, ValueIdx.eq_ix2 z⟩
  rw [base_apply, delta_apply _ hT]
  rfl

end Cert.ReferenceIdeal.Hand

end
-- ==== Proof.Pages.lean ====
/- What the precondition says: every page number of the table is a page of the pool. -/
module

public import proofs.«01_k».proof.Defs
public import Idealize.ShloMosaic.Lib.WordCmp

@[expose] public section

noncomputable section

namespace Cert.Pages

open Idealize.ShloMosaic

variable {F : FTy → Type} [FloatOps F] [Cert.Pre_pages_exist.Facts]

/-- A word that is at least 0 and below 125 as a signed number is below 125 as an unsigned one. -/
theorem word_lt (w : BitVec 32) (h0 : BitVec.sle 0#32 w = true) (h1 : BitVec.slt w 125#32 = true) : w.toNat < 125 := by
  simp only [BitVec.sle, BitVec.slt, decide_eq_true_eq] at h0 h1
  have e := BitVec.toInt_eq_toNat_cond w
  have l : w.toNat < 2 ^ 32 := w.isLt
  have e0 : (0#32 : BitVec 32).toInt = 0 := by decide
  have e1 : (125#32 : BitVec 32).toInt = 125 := by decide
  rw [e0] at h0; rw [e1] at h1
  split at e <;> omega

theorem and_one (a b : BitVec 1) (h : a &&& b = 1#1) : a = 1#1 ∧ b = 1#1 := by
  revert a b; decide

theorem pages_lt (T : IVec ⟨1, ![136]⟩ 32) (a1 a2 a3 a4 a5 a6)
    (h : Cert.Pre_pages_exist.fn (F := F) T a1 a2 a3 a4 a5 a6 = fun _ => 1#1) (k : Fin 128) (y : (⟨1, ![136]⟩ : Shape).Idx) (hy : (y 0).val = k.val) : (T y).toNat < 125 := by
  have hk := congrFun h (fun a => match a with | ⟨0, _⟩ => k)
  simp only [Cert.Pre_pages_exist.fn] at hk
  obtain ⟨h0, h1⟩ := and_one _ _ hk
  have e : ∀ hs, extractStridedSlice Cert.Pre_pages_exist.S128 ![0] T hs (fun a => match a with | ⟨0, _⟩ => k) = T y := by
    intro hs
    unfold extractStridedSlice
    refine congrArg T (funext fun a => ?_)
    fin_cases a
    exact Fin.ext (by simp [hy])
  have h0 : BitVec.ofBool (BitVec.sle 0#32 (extractStridedSlice Cert.Pre_pages_exist.S128 ![0] T _ (fun a => match a with | ⟨0, _⟩ => k))) = 1#1 := h0
  have h1 : BitVec.ofBool (BitVec.slt (extractStridedSlice Cert.Pre_pages_exist.S128 ![0] T _ (fun a => match a with | ⟨0, _⟩ => k)) 125#32) = 1#1 := h1
  rw [e] at h0 h1
  refine word_lt _ ?_ ?_
  · revert h0; cases BitVec.sle 0#32 (T y) <;> decide
  · revert h1; cases BitVec.slt (T y) 125#32 <;> decide

end Cert.Pages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_pages_exist
public import proofs.«01_k».proof.Proof.Kernel.Frame
public import proofs.«01_k».proof.Proof.KernelIdeal.Frame
public import proofs.«01_k».proof.Proof.KernelIdeal.Value
public import proofs.«01_k».proof.Proof.RefValue
public import proofs.«01_k».proof.Proof.Pages
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The page table of the precondition is the kernel's table: every word of it names a page of the pool. -/
theorem pages_Kernel (m : (ℓ : Loc Cert.Kernel.nD Cert.Kernel.τ Cert.Kernel.sig) → Buf (Elt Bits) ℓ) (h : Cert.Pre_Kernel m) :
    Cert.Kernel.Hand.PagesOk (Cert.Kernel.Hand.tbl m 0) := fun k => Cert.Pages.pages_lt _ _ _ _ _ _ _ (h 0) k _ rfl

theorem pages_KernelIdeal (m : (ℓ : Loc Cert.KernelIdeal.nD Cert.KernelIdeal.τ Cert.KernelIdeal.sig) → Buf (Elt Ideal) ℓ) (h : Cert.Pre_KernelIdeal m) :
    Cert.KernelIdeal.Hand.PagesOk (Cert.KernelIdeal.Hand.tbl m 0) := fun k => Cert.Pages.pages_lt _ _ _ _ _ _ _ (h 0) k _ rfl

theorem frame_Kernel : Cert.quiescent_Kernel := fun m g h => Cert.Kernel.Hand.frame m g (Cert.Kernel.Hand.ok_all m) (pages_Kernel m h)

theorem frame_KernelIdeal : Cert.quiescent_KernelIdeal := fun m g h =>
  Cert.KernelIdeal.Hand.frame m g (Cert.KernelIdeal.Hand.ok_all m) (pages_KernelIdeal m h)

/-- The reference declares no semaphore. -/
theorem frame_ReferenceIdeal : Cert.quiescent_ReferenceIdeal := fun m g _ =>
  θ_run_mono (Cert.ReferenceIdeal.Value.run (F := Ideal) m g) fun r h => ⟨fun c => (h c).2, sem_eq_zero_of_no_sems (by decide) r.2⟩

/-- Equal arguments, equal result. -/
theorem out_congr {T T' x x' h h' hm hm' W W' S S' P P'} (e0 : T = T') (e1 : x = x') (e2 : h = h') (e3 : hm = hm') (e4 : W = W') (e5 : S = S')
    (e6 : P = P') (r : Fin 12288) (j : Fin 8192) : Cert.Spec.out T x h hm W S P r j = Cert.Spec.out T' x' h' hm' W' S' P' r j := by
  subst e0 e1 e2 e3 e4 e5 e6; rfl

/-- The kernel and the reference leave the same result: the one in plain terms. -/
theorem algebraic : Cert.algebraic_KernelIdeal_ReferenceIdeal := by
  intro m g m' g' hpre hagree
  have hT := pages_KernelIdeal m hpre
  refine ⟨fun c => Cert.KernelIdeal.Hand.G m c, Cert.KernelIdeal.Hand.run m g (Cert.KernelIdeal.Hand.ok_all m) hT,
    θ_run_mono (Cert.ReferenceIdeal.Value.run (F := Ideal) m' g') fun r h c => ⟨(h c).1.trans ?_, (h c).2⟩⟩
  obtain rfl : c = 0 := Subsingleton.elim _ _
  obtain ⟨e0, e1, e2, e3, e4, e5, e6⟩ := hagree 0
  have hT' : ∀ k : Fin 128, ((StableHlo.launchContents m' 0 (Proc.devRef .tc Cert.ReferenceIdeal.main_arg0) : IVec Cert.ReferenceIdeal.S136 32)
      (Cert.Spec.at1 ⟨k.val, by omega⟩)).toNat < 125 := fun k => by
    have h0 : StableHlo.launchContents m' 0 (Proc.devRef .tc Cert.ReferenceIdeal.main_arg0) = Cert.KernelIdeal.Hand.tbl m 0 := e0
    rw [h0]
    have hw : Cert.KernelIdeal.Hand.wix k = Cert.Spec.at1 (n := 136) ⟨k.val, by omega⟩ := by
      funext a; match a with | ⟨0, _⟩ => rfl
    have hk := hT k
    rw [hw] at hk
    exact hk
  refine (Cert.ReferenceIdeal.Hand.res_out _ hT').trans ?_
  funext z
  exact out_congr e0 e1 e2 e3 e4 e5 e6 _ _

theorem claim : Cert.Claim :=
  ⟨Cert.Kernel.Gen.facts, Cert.KernelIdeal.Gen.facts, Cert.ReferenceIdeal.Gen.facts, Cert.Pre_pages_exist.Gen.facts,
    frame_Kernel, frame_KernelIdeal, frame_ReferenceIdeal, fun m g _ => frame_ReferenceIdeal m g trivial, trivial, algebraic⟩

end Cert.Proof

end
